-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x32 : Shape := ⟨2, ![4096, 32]⟩
abbrev S4x1024x32 : Shape := ⟨3, ![4, 1024, 32]⟩
abbrev S_ : Shape := ⟨0, ![]⟩

class Facts : Prop where
  bcast_S_S4096x32 : S_.BroadcastsInDim S4096x32 (![] : Fin 0 → Fin S4096x32.rank)
  bcast_S_S4x1024x32 : S_.BroadcastsInDim S4x1024x32 (![] : Fin 0 → Fin S4x1024x32.rank)

variable [Facts]

def fn {F : FTy → Type} [FloatOps F] (main_arg0 : FVec F S4096x32 .f32) (main_arg1 : FVec F S4x1024x32 .f32) : IVec S4096x32 1 × IVec S4x1024x32 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_v3 : FVec F S4x1024x32 .f32 := Host.absf main_arg1
  let main_cst_0 : FVec F S_ .f32 := constant S_ .f32 0x7F800000#32
  let main_v4 : FVec F S4x1024x32 .f32 := broadcastInDim S4x1024x32 ![] bcast_S_S4x1024x32 main_cst_0
  let main_v5 : IVec S4x1024x32 1 := cmpf .olt main_v3 main_v4
  (main_v2, main_v5)
-- ==== Kernel.lean ====
abbrev S4096x32 : Shape := ⟨2, ![4096, 32]⟩
abbrev S4x1024x32 : Shape := ⟨3, ![4, 1024, 32]⟩
abbrev S16x1x256 : Shape := ⟨3, ![16, 1, 256]⟩
abbrev S4096 : Shape := ⟨1, ![4096]⟩
abbrev S4096x1 : Shape := ⟨2, ![4096, 1]⟩
abbrev S4096x4 : Shape := ⟨2, ![4096, 4]⟩
abbrev S256x32 : Shape := ⟨2, ![256, 32]⟩
abbrev S1x1x256 : Shape := ⟨3, ![1, 1, 256]⟩
abbrev S256x128 : Shape := ⟨2, ![256, 128]⟩
abbrev S256 : Shape := ⟨1, ![256]⟩
abbrev S1x128x32 : Shape := ⟨3, ![1, 128, 32]⟩
abbrev S128x32 : Shape := ⟨2, ![128, 32]⟩
abbrev S128 : Shape := ⟨1, ![128]⟩
abbrev S1x128 : Shape := ⟨2, ![1, 128]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S4096x32, .f32⟩
  | .hbm, ⟨1, _⟩ => ⟨S4x1024x32, .f32⟩
  | .hbm, ⟨2, _⟩ => ⟨S4096x32, .f32⟩
  | .hbm, ⟨3, _⟩ => ⟨S16x1x256, .i32⟩
  | .hbm, ⟨4, _⟩ => ⟨S16x1x256, .i32⟩
  | .hbm, ⟨5, _⟩ => ⟨S16x1x256, .i32⟩
  | .hbm, ⟨6, _⟩ => ⟨S16x1x256, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S4096x1, .i32⟩
  | .hbm, ⟨15, _⟩ => ⟨S4096x4, .i32⟩
  | .local _ .vmem, ⟨0, _⟩ => ⟨S256x32, .f32⟩
  | .local _ .vmem, ⟨1, _⟩ => ⟨S256x32, .f32⟩
  | .local _ .vmem, ⟨2, _⟩ => ⟨S4x1024x32, .f32⟩
  | .local _ .vmem, ⟨3, _⟩ => ⟨S256x32, .f32⟩
  | .local _ .vmem, ⟨4, _⟩ => ⟨S256x32, .f32⟩
  | .local _ .vmem, ⟨5, _⟩ => ⟨S1x1x256, .i32⟩
  | .local _ .vmem, ⟨6, _⟩ => ⟨S1x1x256, .i32⟩
  | .local _ .vmem, ⟨7, _⟩ => ⟨S1x1x256, .i32⟩
  | .local _ .vmem, ⟨8, _⟩ => ⟨S1x1x256, .i32⟩
  | .local _ .vmem, ⟨9, _⟩ => ⟨S1x1x256, .i32⟩
  | .local _ .vmem, ⟨10, _⟩ => ⟨S1x1x256, .i32⟩
  | .local _ .vmem, ⟨11, _⟩ => ⟨S1x1x256, .i32⟩
  | .local _ .vmem, ⟨12, _⟩ => ⟨S1x1x256, .i32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v0_4 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_3 : BitVec 32 := 0#32
  let c8_i32 : BitVec 32 := 8#32
  let v6 : BitVec 32 := Scalar.addi c0_i32_3 c8_i32
  let c1_i32 : BitVec 32 := 1#32
  ⟨c0_i32_3, v6, c1_i32⟩
def k0_off1 (k0_t1 : Fin k0_t1_loop.trips) : Fin 3 → Nat :=
  let c0_40 : Index := 0#32
  let c0_i32_3 : BitVec 32 := 0#32
  let c1_i32 : BitVec 32 := 1#32
  let arg8 : BitVec 32 := Scf.iv c0_i32_3 c1_i32 k0_t1
  let c128_i32 : BitVec 32 := 128#32
  let v43 : BitVec 32 := Scalar.muli arg8 c128_i32
  let v44 : Index := Scalar.indexCast v43
  let c0_41 : Index := 0#32
  ![0, v44.toNat, 0]
@[reducible] def k0_t2_loop : Scf.Loop 32 :=
  let c0_i32_11 : BitVec 32 := 0#32
  let c8_i32_12 : BitVec 32 := 8#32
  let v16 : BitVec 32 := Scalar.addi c0_i32_11 c8_i32_12
  let c1_i32_13 : BitVec 32 := 1#32
  ⟨c0_i32_11, v16, c1_i32_13⟩
def k0_off2 (k0_t2 : Fin k0_t2_loop.trips) : Fin 3 → Nat :=
  let c1 : Index := 1#32
  let c0_i32_11 : BitVec 32 := 0#32
  let c1_i32_13 : BitVec 32 := 1#32
  let arg8 : BitVec 32 := Scf.iv c0_i32_11 c1_i32_13 k0_t2
  let c128_i32 : BitVec 32 := 128#32
  let v43 : BitVec 32 := Scalar.muli arg8 c128_i32
  let v44 : Index := Scalar.indexCast v43
  let c0_40 : Index := 0#32
  ![1, v44.toNat, 0]
@[reducible] def k0_t3_loop : Scf.Loop 32 :=
  let c0_i32_21 : BitVec 32 := 0#32
  let c8_i32_22 : BitVec 32 := 8#32
  let v26 : BitVec 32 := Scalar.addi c0_i32_21 c8_i32_22
  let c1_i32_23 : BitVec 32 := 1#32
  ⟨c0_i32_21, v26, c1_i32_23⟩
def k0_off3 (k0_t3 : Fin k0_t3_loop.trips) : Fin 3 → Nat :=
  let c2 : Index := 2#32
  let c0_i32_21 : BitVec 32 := 0#32
  let c1_i32_23 : BitVec 32 := 1#32
  let arg8 : BitVec 32 := Scf.iv c0_i32_21 c1_i32_23 k0_t3
  let c128_i32 : BitVec 32 := 128#32
  let v43 : BitVec 32 := Scalar.muli arg8 c128_i32
  let v44 : Index := Scalar.indexCast v43
  let c0_40 : Index := 0#32
  ![2, v44.toNat, 0]
@[reducible] def k0_t4_loop : Scf.Loop 32 :=
  let c0_i32_31 : BitVec 32 := 0#32
  let c8_i32_32 : BitVec 32 := 8#32
  let v36 : BitVec 32 := Scalar.addi c0_i32_31 c8_i32_32
  let c1_i32_33 : BitVec 32 := 1#32
  ⟨c0_i32_31, v36, c1_i32_33⟩
def k0_off4 (k0_t4 : Fin k0_t4_loop.trips) : Fin 3 → Nat :=
  let c3 : Index := 3#32
  let c0_i32_31 : BitVec 32 := 0#32
  let c1_i32_33 : BitVec 32 := 1#32
  let arg8 : BitVec 32 := Scf.iv c0_i32_31 c1_i32_33 k0_t4
  let c128_i32 : BitVec 32 := 128#32
  let v43 : BitVec 32 := Scalar.muli arg8 c128_i32
  let v44 : Index := Scalar.indexCast v43
  let c0_40 : Index := 0#32
  ![3, v44.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x32 : Shape := ⟨2, ![4096, 32]⟩
abbrev S4x1024x32 : Shape := ⟨3, ![4, 1024, 32]⟩
abbrev S_ : Shape := ⟨0, ![]⟩
abbrev S1x1024x32 : Shape := ⟨3, ![1, 1024, 32]⟩
abbrev S1024x32 : Shape := ⟨2, ![1024, 32]⟩
abbrev S4096x1x32 : Shape := ⟨3, ![4096, 1, 32]⟩
abbrev S4096x1024x32 : Shape := ⟨3, ![4096, 1024, 32]⟩
abbrev S4096x1024 : Shape := ⟨2, ![4096, 1024]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S4096x4 : Shape := ⟨2, ![4096, 4]⟩

abbrev nBuf : Space → Nat
  | .hbm => 169
  | .vmem => 0
  | .smem => 0
  | _ => 0

abbrev hbmTy0_0 (i : Nat) : BufTy := match i % 128 with
  | 0 => ⟨S4096x32, .f32⟩
  | 1 => ⟨S4x1024x32, .f32⟩
  | 2 => ⟨S_, .f32⟩
  | 3 => ⟨S4096x32, .f32⟩
  | 4 => ⟨S1x1024x32, .f32⟩
  | 5 => ⟨S1024x32, .f32⟩
  | 6 => ⟨S4096x1x32, .f32⟩
  | 7 => ⟨S1x1024x32, .f32⟩
  | 8 => ⟨S4096x1024x32, .f32⟩
  | 9 => ⟨S4096x1024x32, .f32⟩
  | 10 => ⟨S4096x1024x32, .f32⟩
  | 11 => ⟨S4096x1024x32, .f32⟩
  | 12 => ⟨S_, .f32⟩
  | 13 => ⟨S4096x1024, .f32⟩
  | 14 => ⟨S4096x1024, .i32⟩
  | 15 => ⟨S_, .f32⟩
  | 16 => ⟨S_, .i32⟩
  | 17 => ⟨S4096, .f32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S1, .i32⟩
  | 28 => ⟨S_, .i32⟩
  | 29 => ⟨S4096x1, .i32⟩
  | 30 => ⟨S4096x1, .i1⟩
  | 31 => ⟨S1x1, .i32⟩
  | 32 => ⟨S4096x1, .i32⟩
  | 33 => ⟨S4096x1, .i1⟩
  | 34 => ⟨S4096x1, .i1⟩
  | 35 => ⟨S_, .i1⟩
  | 36 => ⟨S4096, .i1⟩
  | 37 => ⟨S4096x32, .f32⟩
  | 38 => ⟨S4096x32, .i1⟩
  | 39 => ⟨S_, .f32⟩
  | 40 => ⟨S4096x32, .f32⟩
  | 41 => ⟨S4096x32, .f32⟩
  | 42 => ⟨S4096x32, .f32⟩
  | 43 => ⟨S4096x32, .f32⟩
  | 44 => ⟨S1x1024x32, .f32⟩
  | 45 => ⟨S1024x32, .f32⟩
  | 46 => ⟨S4096x1x32, .f32⟩
  | 47 => ⟨S1x1024x32, .f32⟩
  | 48 => ⟨S4096x1024x32, .f32⟩
  | 49 => ⟨S4096x1024x32, .f32⟩
  | 50 => ⟨S4096x1024x32, .f32⟩
  | 51 => ⟨S4096x1024x32, .f32⟩
  | 52 => ⟨S_, .f32⟩
  | 53 => ⟨S4096x1024, .f32⟩
  | 54 => ⟨S4096x1024, .i32⟩
  | 55 => ⟨S_, .f32⟩
  | 56 => ⟨S_, .i32⟩
  | 57 => ⟨S4096, .f32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S1, .i32⟩
  | 68 => ⟨S_, .i32⟩
  | 69 => ⟨S4096x1, .i32⟩
  | 70 => ⟨S4096x1, .i1⟩
  | 71 => ⟨S1x1, .i32⟩
  | 72 => ⟨S4096x1, .i32⟩
  | 73 => ⟨S4096x1, .i1⟩
  | 74 => ⟨S4096x1, .i1⟩
  | 75 => ⟨S_, .i1⟩
  | 76 => ⟨S4096, .i1⟩
  | 77 => ⟨S4096x32, .f32⟩
  | 78 => ⟨S4096x32, .i1⟩
  | 79 => ⟨S_, .f32⟩
  | 80 => ⟨S4096x32, .f32⟩
  | 81 => ⟨S4096x32, .f32⟩
  | 82 => ⟨S4096x32, .f32⟩
  | 83 => ⟨S4096x32, .f32⟩
  | 84 => ⟨S1x1024x32, .f32⟩
  | 85 => ⟨S1024x32, .f32⟩
  | 86 => ⟨S4096x1x32, .f32⟩
  | 87 => ⟨S1x1024x32, .f32⟩
  | 88 => ⟨S4096x1024x32, .f32⟩
  | 89 => ⟨S4096x1024x32, .f32⟩
  | 90 => ⟨S4096x1024x32, .f32⟩
  | 91 => ⟨S4096x1024x32, .f32⟩
  | 92 => ⟨S_, .f32⟩
  | 93 => ⟨S4096x1024, .f32⟩
  | 94 => ⟨S4096x1024, .i32⟩
  | 95 => ⟨S_, .f32⟩
  | 96 => ⟨S_, .i32⟩
  | 97 => ⟨S4096, .f32⟩
  | 98 => ⟨S4096, .i32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S1, .i32⟩
  | 108 => ⟨S_, .i32⟩
  | 109 => ⟨S4096x1, .i32⟩
  | 110 => ⟨S4096x1, .i1⟩
  | 111 => ⟨S1x1, .i32⟩
  | 112 => ⟨S4096x1, .i32⟩
  | 113 => ⟨S4096x1, .i1⟩
  | 114 => ⟨S4096x1, .i1⟩
  | 115 => ⟨S_, .i1⟩
  | 116 => ⟨S4096, .i1⟩
  | 117 => ⟨S4096x32, .f32⟩
  | 118 => ⟨S4096x32, .i1⟩
  | 119 => ⟨S_, .f32⟩
  | 120 => ⟨S4096x32, .f32⟩
  | 121 => ⟨S4096x32, .f32⟩
  | 122 => ⟨S4096x32, .f32⟩
  | 123 => ⟨S4096x32, .f32⟩
  | 124 => ⟨S1x1024x32, .f32⟩
  | 125 => ⟨S1024x32, .f32⟩
  | 126 => ⟨S4096x1x32, .f32⟩
  | 127 => ⟨S1x1024x32, .f32⟩
  | _ => ⟨S4096x32, .f32⟩

abbrev hbmTy0_1 (i : Nat) : BufTy := match i % 128 with
  | 0 => ⟨S4096x1024x32, .f32⟩
  | 1 => ⟨S4096x1024x32, .f32⟩
  | 2 => ⟨S4096x1024x32, .f32⟩
  | 3 => ⟨S4096x1024x32, .f32⟩
  | 4 => ⟨S_, .f32⟩
  | 5 => ⟨S4096x1024, .f32⟩
  | 6 => ⟨S4096x1024, .i32⟩
  | 7 => ⟨S_, .f32⟩
  | 8 => ⟨S_, .i32⟩
  | 9 => ⟨S4096, .f32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096x32, .f32⟩
  | 30 => ⟨S4096x32, .i1⟩
  | 31 => ⟨S_, .f32⟩
  | 32 => ⟨S4096x32, .f32⟩
  | 33 => ⟨S4096x32, .f32⟩
  | 34 => ⟨S4096x32, .f32⟩
  | 35 => ⟨S4096x32, .f32⟩
  | 36 => ⟨S4096x1, .i32⟩
  | 37 => ⟨S4096x1, .i32⟩
  | 38 => ⟨S4096x1, .i32⟩
  | 39 => ⟨S4096x1, .i32⟩
  | 40 => ⟨S4096x4, .i32⟩
  | _ => ⟨S4096x32, .f32⟩

abbrev hbmTy (i : Nat) : BufTy := match i / 128 with
  | 0 => hbmTy0_0 i
  | 1 => hbmTy0_1 i
  | _ => ⟨S4096x32, .f32⟩

abbrev bufTy : (tb : Table) → Fin (tcTables nBuf tb) → BufTy
  | .hbm, ⟨i, _⟩ => hbmTy i
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_1 : Ref sig .tc := ⟨.hbm, 52, rfl⟩
abbrev main_v22 : Ref sig .tc := ⟨.hbm, 53, rfl⟩
abbrev main_call2_v0 : Ref sig .tc := ⟨.hbm, 54, rfl⟩
abbrev main_call2_cst : Ref sig .tc := ⟨.hbm, 55, rfl⟩
abbrev main_call2_c : Ref sig .tc := ⟨.hbm, 56, rfl⟩
abbrev main_call2_v1_0 : Ref sig .tc := ⟨.hbm, 57, rfl⟩
abbrev main_v23 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_call3_cst : Ref sig .tc := ⟨.hbm, 79, rfl⟩
abbrev main_call3_v15 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_2 : Ref sig .tc := ⟨.hbm, 92, rfl⟩
abbrev main_v35 : Ref sig .tc := ⟨.hbm, 93, rfl⟩
abbrev main_call4_v0 : Ref sig .tc := ⟨.hbm, 94, rfl⟩
abbrev main_call4_cst : Ref sig .tc := ⟨.hbm, 95, rfl⟩
abbrev main_call4_c : Ref sig .tc := ⟨.hbm, 96, rfl⟩
abbrev main_call4_v1_0 : Ref sig .tc := ⟨.hbm, 97, rfl⟩
abbrev main_v36 : Ref sig .tc := ⟨.hbm, 98, rfl⟩
abbrev main_call5_c : Ref sig .tc := ⟨.hbm, 99, rfl⟩
abbrev main_call5_v0 : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_c_1 : Ref sig .tc := ⟨.hbm, 107, rfl⟩
abbrev main_call5_c_2 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_3 : Ref sig .tc := ⟨.hbm, 115, rfl⟩
abbrev main_call5_v12 : Ref sig .tc := ⟨.hbm, 116, rfl⟩
abbrev main_call5_v13 : Ref sig .tc := ⟨.hbm, 117, rfl⟩
abbrev main_call5_v14 : Ref sig .tc := ⟨.hbm, 118, rfl⟩
abbrev main_call5_cst : Ref sig .tc := ⟨.hbm, 119, rfl⟩
abbrev main_call5_v15 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_cst_3 : Ref sig .tc := ⟨.hbm, 132, rfl⟩
abbrev main_v48 : Ref sig .tc := ⟨.hbm, 133, rfl⟩
abbrev main_call6_v0 : Ref sig .tc := ⟨.hbm, 134, rfl⟩
abbrev main_call6_cst : Ref sig .tc := ⟨.hbm, 135, rfl⟩
abbrev main_call6_c : Ref sig .tc := ⟨.hbm, 136, rfl⟩
abbrev main_call6_v1_0 : Ref sig .tc := ⟨.hbm, 137, rfl⟩
abbrev main_v49 : Ref sig .tc := ⟨.hbm, 138, rfl⟩
abbrev main_call7_c : Ref sig .tc := ⟨.hbm, 139, rfl⟩
abbrev main_call7_v0 : Ref sig .tc := ⟨.hbm, 140, rfl⟩
abbrev main_call7_v1 : Ref sig .tc := ⟨.hbm, 141, rfl⟩
abbrev main_call7_c_0 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_call7_v5 : Ref sig .tc := ⟨.hbm, 146, rfl⟩
abbrev main_call7_c_1 : Ref sig .tc := ⟨.hbm, 147, rfl⟩
abbrev main_call7_c_2 : Ref sig .tc := ⟨.hbm, 148, rfl⟩
abbrev main_call7_v6 : Ref sig .tc := ⟨.hbm, 149, rfl⟩
abbrev main_call7_v7 : Ref sig .tc := ⟨.hbm, 150, rfl⟩
abbrev main_call7_v8 : Ref sig .tc := ⟨.hbm, 151, rfl⟩
abbrev main_call7_v9 : Ref sig .tc := ⟨.hbm, 152, rfl⟩
abbrev main_call7_v10 : Ref sig .tc := ⟨.hbm, 153, rfl⟩
abbrev main_call7_v11 : Ref sig .tc := ⟨.hbm, 154, rfl⟩
abbrev main_call7_c_3 : Ref sig .tc := ⟨.hbm, 155, rfl⟩
abbrev main_call7_v12 : Ref sig .tc := ⟨.hbm, 156, rfl⟩
abbrev main_call7_v13 : Ref sig .tc := ⟨.hbm, 157, rfl⟩
abbrev main_call7_v14 : Ref sig .tc := ⟨.hbm, 158, rfl⟩
abbrev main_call7_cst : Ref sig .tc := ⟨.hbm, 159, rfl⟩
abbrev main_call7_v15 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩

abbrev nD : Nat := 1
abbrev τ : Topo := Topo.v7x

variable {F : FTy → Type} [FloatOps F]
-- ==== Proof.RefOps.lean ====
/- The reference program as a list of host operations, cut where its own text is cut: per level the distances, the
   arg-min, the row lookup and the update. A level is written once, over the buffers it uses; the program is the four
   levels at their buffers. Its run leaves every buffer at what the list computes. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ### Operations at typed buffers

The builders under short names of their own, so that the lemmas on their results are keyed on these. -/

section Ops

variable {T Ta Tb Tc Te : BufTy}

/-- An operation without an operand. -/
def nul (y : TRef sig T) (v : T.Contents (Elt F)) : HloOp τ sig (Elt F) := TRef.nullary y v
/-- An operation on one buffer. -/
def un (a : TRef sig Ta) (y : TRef sig T) (f : Ta.Contents (Elt F) → T.Contents (Elt F)) : HloOp τ sig (Elt F) :=
  TRef.unary a y f
/-- An operation on two buffers. -/
def bin (a : TRef sig Ta) (b : TRef sig Tb) (y : TRef sig T)
    (f : Ta.Contents (Elt F) → Tb.Contents (Elt F) → T.Contents (Elt F)) : HloOp τ sig (Elt F) := TRef.binary a b y f
/-- An operation on three buffers. -/
def tern (c : TRef sig Tc) (a : TRef sig Ta) (b : TRef sig Tb) (y : TRef sig T)
    (f : Tc.Contents (Elt F) → Ta.Contents (Elt F) → Tb.Contents (Elt F) → T.Contents (Elt F)) : HloOp τ sig (Elt F) :=
  TRef.ternary c a b y f
/-- An operation on four buffers. -/
def quat (a : TRef sig Ta) (b : TRef sig Tb) (c : TRef sig Tc) (e : TRef sig Te) (y : TRef sig T)
    (f : Ta.Contents (Elt F) → Tb.Contents (Elt F) → Tc.Contents (Elt F) → Te.Contents (Elt F) → T.Contents (Elt F)) :
    HloOp τ sig (Elt F) := TRef.quaternary a b c e y f
/-- A change of shape. -/
def resh (a : TRef sig Ta) (y : TRef sig T) (he : Ta.elt = T.elt) (hn : Ta.shape.ShapeCasts T.shape) :
    HloOp τ sig (Elt F) := TRef.reshape a y he hn

theorem nul_sub (y : TRef sig T) (v : T.Contents (Elt F)) : (nul y v).bufs ⊆ tcRefs τ sig := by
  delta nul TRef.nullary; exact nullary_bufs_sub ..
theorem un_sub (a : TRef sig Ta) (y : TRef sig T) (f : Ta.Contents (Elt F) → T.Contents (Elt F)) :
    (un a y f).bufs ⊆ tcRefs τ sig := by
  delta un TRef.unary; exact unary_bufs_sub ..
theorem bin_sub (a : TRef sig Ta) (b : TRef sig Tb) (y : TRef sig T)
    (f : Ta.Contents (Elt F) → Tb.Contents (Elt F) → T.Contents (Elt F)) : (bin a b y f).bufs ⊆ tcRefs τ sig := by
  delta bin TRef.binary; exact binary_bufs_sub ..
theorem tern_sub (c : TRef sig Tc) (a : TRef sig Ta) (b : TRef sig Tb) (y : TRef sig T)
    (f : Tc.Contents (Elt F) → Ta.Contents (Elt F) → Tb.Contents (Elt F) → T.Contents (Elt F)) :
    (tern c a b y f).bufs ⊆ tcRefs τ sig := by
  delta tern TRef.ternary; exact ternary_bufs_sub ..
theorem quat_sub (a : TRef sig Ta) (b : TRef sig Tb) (c : TRef sig Tc) (e : TRef sig Te) (y : TRef sig T)
    (f : Ta.Contents (Elt F) → Tb.Contents (Elt F) → Tc.Contents (Elt F) → Te.Contents (Elt F) → T.Contents (Elt F)) :
    (quat a b c e y f).bufs ⊆ tcRefs τ sig := by
  delta quat TRef.quaternary; exact quaternary_bufs_sub ..
theorem resh_sub (a : TRef sig Ta) (y : TRef sig T) (he : Ta.elt = T.elt) (hn : Ta.shape.ShapeCasts T.shape) :
    (resh (F := F) a y he hn).bufs ⊆ tcRefs τ sig := by
  delta resh TRef.reshape; exact reshape_bufs_sub ..

end Ops

/-! ### One level -/

/-- The buffers of one level: the codebooks, the residual and the sum so far, then what the level writes; and where
    its codebook lies among the four. -/
structure Level where
  start : Fin 3 → Nat
  cut : S4x1024x32.Slices start S1x1024x32
  (cb : TRef sig ⟨S4x1024x32, .f32⟩)
  (x sum got nans row sum1 x1 : TRef sig ⟨S4096x32, .f32⟩)
  (slab bookRow : TRef sig ⟨S1x1024x32, .f32⟩)
  (book : TRef sig ⟨S1024x32, .f32⟩)
  (xCol : TRef sig ⟨S4096x1x32, .f32⟩)
  (xAll bookAll gap sq : TRef sig ⟨S4096x1024x32, .f32⟩)
  (zero inf nan : TRef sig ⟨S_, .f32⟩)
  (dst : TRef sig ⟨S4096x1024, .f32⟩)
  (iota : TRef sig ⟨S4096x1024, .i32⟩)
  (first nought count low : TRef sig ⟨S_, .i32⟩)
  (least : TRef sig ⟨S4096, .f32⟩)
  (code noughts counts up place : TRef sig ⟨S4096, .i32⟩)
  (neg ok : TRef sig ⟨S4096, .i1⟩)
  (pos lows tops : TRef sig ⟨S4096x1, .i32⟩)
  (top : TRef sig ⟨S1, .i32⟩)
  (geLow leTop both : TRef sig ⟨S4096x1, .i1⟩)
  (topRow : TRef sig ⟨S1x1, .i32⟩)
  (yes : TRef sig ⟨S_, .i1⟩)
  (okAll : TRef sig ⟨S4096x32, .i1⟩)

namespace Level

variable (B : Level)

/-- The level's codebook and the squared distances of every row to every codeword. -/
def distOps : List (HloOp τ sig (Elt F)) :=
  [ un B.cb B.slab (extractStridedSlice S1x1024x32 B.start · B.cut),
    resh B.slab B.book (rfl : (.f32 : EltTy) = .f32) shapeCasts_S1x1024x32_S1024x32,
    un B.x B.xCol (broadcastInDim S4096x1x32 ![0, 2] bcast_S4096x32_S4096x1x32_0_2),
    un B.book B.bookRow (broadcastInDim S1x1024x32 ![1, 2] bcast_S1024x32_S1x1024x32_1_2),
    un B.xCol B.xAll (broadcastInDim S4096x1024x32 ![0, 1, 2] bcast_S4096x1x32_S4096x1024x32_0_1_2),
    un B.bookRow B.bookAll (broadcastInDim S4096x1024x32 ![0, 1, 2] bcast_S1x1024x32_S4096x1024x32_0_1_2),
    bin B.xAll B.bookAll B.gap subf,
    bin B.gap B.gap B.sq mulf,
    nul B.zero (constant S_ .f32 0x00000000#32),
    bin B.sq B.zero B.dst (fun x v => Host.reduceAdd x v reducesTo_S4096x1024x32_S4096x1024_d2 h_S_) ]

/-- The index of the nearest codeword of every row. -/
def argOps : List (HloOp τ sig (Elt F)) :=
  [ nul B.iota (iotaInDim S4096x1024 32 1),
    nul B.inf (constant S_ .f32 0x7F800000#32),
    nul B.first (constantI S_ 32 0#32),
    quat B.dst B.iota B.inf B.first B.least
      (fun x y u v j => (Host.argReduce reducer_argmin_f32_i32 x y u v reducesTo_S4096x1024_S4096_d1 h_S_ j).1),
    quat B.dst B.iota B.inf B.first B.code
      (fun x y u v j => (Host.argReduce reducer_argmin_f32_i32 x y u v reducesTo_S4096x1024_S4096_d1 h_S_ j).2) ]

/-- The row of the codebook at that index. -/
def takeOps : List (HloOp τ sig (Elt F)) :=
  [ nul B.nought (constantI S_ 32 0#32),
    un B.nought B.noughts (broadcastInDim S4096 ![] bcast_S_S4096),
    bin B.code B.noughts B.neg (cmpi .slt),
    nul B.count (constantI S_ 32 1024#32),
    un B.count B.counts (broadcastInDim S4096 ![] bcast_S_S4096),
    bin B.code B.counts B.up addi,
    tern B.neg B.up B.code B.place select,
    un B.place B.pos (broadcastInDim S4096x1 ![0] bcast_S4096_S4096x1_0),
    nul B.top (constantI S1 32 1023#32),
    nul B.low (constantI S_ 32 0#32),
    un B.low B.lows (broadcastInDim S4096x1 ![] bcast_S_S4096x1),
    bin B.pos B.lows B.geLow (cmpi .sge),
    un B.top B.topRow (broadcastInDim S1x1 ![1] bcast_S1_S1x1_1),
    un B.topRow B.tops (broadcastInDim S4096x1 ![0, 1] bcast_S1x1_S4096x1_0_1),
    bin B.pos B.tops B.leTop (cmpi .sle),
    bin B.geLow B.leTop B.both andi,
    nul B.yes (constantI S_ 1 1#1),
    bin B.both B.yes B.ok (fun x v => Host.reduce IntOp.andi x v reducesTo_S4096x1_S4096_d1 h_S_),
    bin B.book B.pos B.got (fun x i => Host.gather gather_S1024x32_S4096x1_S4096x32_1_0_n_n_0_1_132 x i),
    un B.ok B.okAll (broadcastInDim S4096x32 ![0] bcast_S4096_S4096x32_0),
    nul B.nan (constant S_ .f32 0x7FC00000#32),
    un B.nan B.nans (broadcastInDim S4096x32 ![] bcast_S_S4096x32),
    tern B.okAll B.got B.nans B.row select ]

/-- The running sum and the next residual. -/
def updOps : List (HloOp τ sig (Elt F)) :=
  [ bin B.sum B.row B.sum1 addf,
    bin B.x B.row B.x1 subf ]

/-- All of the level. -/
def ops : List (HloOp τ sig (Elt F)) := B.distOps ++ (B.argOps ++ (B.takeOps ++ B.updOps))

/-- The buffers that the distances part writes. -/
def distW : List (Ref sig .tc) :=
  [B.slab.ref, B.book.ref, B.xCol.ref, B.bookRow.ref, B.xAll.ref, B.bookAll.ref, B.gap.ref, B.sq.ref, B.zero.ref,
    B.dst.ref]

/-- The buffers that the arg-min part writes. -/
def argW : List (Ref sig .tc) :=
  [B.iota.ref, B.inf.ref, B.first.ref, B.least.ref, B.code.ref]

/-- The buffers that the lookup part writes. -/
def takeW : List (Ref sig .tc) :=
  [B.nought.ref, B.noughts.ref, B.neg.ref, B.count.ref, B.counts.ref, B.up.ref, B.place.ref, B.pos.ref, B.top.ref,
    B.low.ref, B.lows.ref, B.geLow.ref, B.topRow.ref, B.tops.ref, B.leTop.ref, B.both.ref, B.yes.ref, B.ok.ref,
    B.got.ref, B.okAll.ref, B.nan.ref, B.nans.ref, B.row.ref]

/-- The buffers that the update part writes. -/
def updW : List (Ref sig .tc) :=
  [B.sum1.ref, B.x1.ref]

/-- The buffers that the level writes. -/
def W : List (Ref sig .tc) := B.distW ++ (B.argW ++ (B.takeW ++ B.updW))

/-- Every buffer of the level's operations is one of the TensorCore's. -/
theorem ops_sub : ∀ op ∈ B.ops (F := F), op.bufs ⊆ tcRefs τ sig := by
  simp only [ops, distOps, argOps, takeOps, updOps, List.cons_append, List.nil_append, List.forall_mem_cons, nul_sub, un_sub,
    bin_sub, tern_sub, quat_sub, resh_sub, true_and]
  exact List.forall_mem_nil _

/-- No operation of the level takes a buffer afresh. -/
theorem ops_fresh : ∀ op ∈ B.ops (F := F), op.fresh = ∅ :=
  List.forall_iff_forall_mem.mp (forall_fresh_of_map rfl)

end Level

/-! ### The program -/

/-- The buffers of level 0. -/
def at0 : Level where
  start := ![0, 0, 0]
  cut := slices_S4x1024x32_S1x1024x32_0_0_0
  cb := .of main_arg1; x := .of main_arg0; sum := .of main_v0; slab := .of main_v1; book := .of main_v2
  xCol := .of main_v3; bookRow := .of main_v4; xAll := .of main_v5; bookAll := .of main_v6; gap := .of main_v7
  sq := .of main_v8; zero := .of main_cst_0; dst := .of main_v9; iota := .of main_call0_v0
  inf := .of main_call0_cst; first := .of main_call0_c; least := .of main_call0_v1_0; code := .of main_v10
  nought := .of main_call1_c; noughts := .of main_call1_v0; neg := .of main_call1_v1
  count := .of main_call1_c_0; counts := .of main_call1_v2; up := .of main_call1_v3; place := .of main_call1_v4
  pos := .of main_call1_v5; top := .of main_call1_c_1; low := .of main_call1_c_2; lows := .of main_call1_v6
  geLow := .of main_call1_v7; topRow := .of main_call1_v8; tops := .of main_call1_v9
  leTop := .of main_call1_v10; both := .of main_call1_v11; yes := .of main_call1_c_3; ok := .of main_call1_v12
  got := .of main_call1_v13; okAll := .of main_call1_v14; nan := .of main_call1_cst; nans := .of main_call1_v15
  row := .of main_v11; sum1 := .of main_v12; x1 := .of main_v13

@[inherit_doc at0]
def at1 : Level where
  start := ![1, 0, 0]
  cut := slices_S4x1024x32_S1x1024x32_1_0_0
  cb := .of main_arg1; x := .of main_v13; sum := .of main_v12; slab := .of main_v14; book := .of main_v15
  xCol := .of main_v16; bookRow := .of main_v17; xAll := .of main_v18; bookAll := .of main_v19
  gap := .of main_v20; sq := .of main_v21; zero := .of main_cst_1; dst := .of main_v22
  iota := .of main_call2_v0; inf := .of main_call2_cst; first := .of main_call2_c; least := .of main_call2_v1_0
  code := .of main_v23; nought := .of main_call3_c; noughts := .of main_call3_v0; neg := .of main_call3_v1
  count := .of main_call3_c_0; counts := .of main_call3_v2; up := .of main_call3_v3; place := .of main_call3_v4
  pos := .of main_call3_v5; top := .of main_call3_c_1; low := .of main_call3_c_2; lows := .of main_call3_v6
  geLow := .of main_call3_v7; topRow := .of main_call3_v8; tops := .of main_call3_v9
  leTop := .of main_call3_v10; both := .of main_call3_v11; yes := .of main_call3_c_3; ok := .of main_call3_v12
  got := .of main_call3_v13; okAll := .of main_call3_v14; nan := .of main_call3_cst; nans := .of main_call3_v15
  row := .of main_v24; sum1 := .of main_v25; x1 := .of main_v26

@[inherit_doc at0]
def at2 : Level where
  start := ![2, 0, 0]
  cut := slices_S4x1024x32_S1x1024x32_2_0_0
  cb := .of main_arg1; x := .of main_v26; sum := .of main_v25; slab := .of main_v27; book := .of main_v28
  xCol := .of main_v29; bookRow := .of main_v30; xAll := .of main_v31; bookAll := .of main_v32
  gap := .of main_v33; sq := .of main_v34; zero := .of main_cst_2; dst := .of main_v35
  iota := .of main_call4_v0; inf := .of main_call4_cst; first := .of main_call4_c; least := .of main_call4_v1_0
  code := .of main_v36; nought := .of main_call5_c; noughts := .of main_call5_v0; neg := .of main_call5_v1
  count := .of main_call5_c_0; counts := .of main_call5_v2; up := .of main_call5_v3; place := .of main_call5_v4
  pos := .of main_call5_v5; top := .of main_call5_c_1; low := .of main_call5_c_2; lows := .of main_call5_v6
  geLow := .of main_call5_v7; topRow := .of main_call5_v8; tops := .of main_call5_v9
  leTop := .of main_call5_v10; both := .of main_call5_v11; yes := .of main_call5_c_3; ok := .of main_call5_v12
  got := .of main_call5_v13; okAll := .of main_call5_v14; nan := .of main_call5_cst; nans := .of main_call5_v15
  row := .of main_v37; sum1 := .of main_v38; x1 := .of main_v39

@[inherit_doc at0]
def at3 : Level where
  start := ![3, 0, 0]
  cut := slices_S4x1024x32_S1x1024x32_3_0_0
  cb := .of main_arg1; x := .of main_v39; sum := .of main_v38; slab := .of main_v40; book := .of main_v41
  xCol := .of main_v42; bookRow := .of main_v43; xAll := .of main_v44; bookAll := .of main_v45
  gap := .of main_v46; sq := .of main_v47; zero := .of main_cst_3; dst := .of main_v48
  iota := .of main_call6_v0; inf := .of main_call6_cst; first := .of main_call6_c; least := .of main_call6_v1_0
  code := .of main_v49; nought := .of main_call7_c; noughts := .of main_call7_v0; neg := .of main_call7_v1
  count := .of main_call7_c_0; counts := .of main_call7_v2; up := .of main_call7_v3; place := .of main_call7_v4
  pos := .of main_call7_v5; top := .of main_call7_c_1; low := .of main_call7_c_2; lows := .of main_call7_v6
  geLow := .of main_call7_v7; topRow := .of main_call7_v8; tops := .of main_call7_v9
  leTop := .of main_call7_v10; both := .of main_call7_v11; yes := .of main_call7_c_3; ok := .of main_call7_v12
  got := .of main_call7_v13; okAll := .of main_call7_v14; nan := .of main_call7_cst; nans := .of main_call7_v15
  row := .of main_v50; sum1 := .of main_v51; x1 := .of main_v52

/-- The zero array that the quantisation starts from. -/
abbrev opsZero : List (HloOp τ sig (Elt F)) :=
  [ nullary main_cst (constant S_ .f32 0x00000000#32),
    unary main_cst main_v0 (broadcastInDim S4096x32 ![] bcast_S_S4096x32 : (⟨S_, .f32⟩ : BufTy).Contents (Elt F) → (⟨S4096x32, .f32⟩ : BufTy).Contents (Elt F)) ]

/-- The first two columns of the codes. -/
abbrev opsCols : List (HloOp τ sig (Elt F)) :=
  [ unary main_v10 main_v53 (broadcastInDim S4096x1 ![0] bcast_S4096_S4096x1_0 : (⟨S4096, .i32⟩ : BufTy).Contents (Elt F) → (⟨S4096x1, .i32⟩ : BufTy).Contents (Elt F)),
    unary main_v23 main_v54 (broadcastInDim S4096x1 ![0] bcast_S4096_S4096x1_0 : (⟨S4096, .i32⟩ : BufTy).Contents (Elt F) → (⟨S4096x1, .i32⟩ : BufTy).Contents (Elt F)) ]

/-- The other two columns, and the four side by side. -/
abbrev opsStack : List (HloOp τ sig (Elt F)) :=
  [ unary main_v36 main_v55 (broadcastInDim S4096x1 ![0] bcast_S4096_S4096x1_0 : (⟨S4096, .i32⟩ : BufTy).Contents (Elt F) → (⟨S4096x1, .i32⟩ : BufTy).Contents (Elt F)),
    unary main_v49 main_v56 (broadcastInDim S4096x1 ![0] bcast_S4096_S4096x1_0 : (⟨S4096, .i32⟩ : BufTy).Contents (Elt F) → (⟨S4096x1, .i32⟩ : BufTy).Contents (Elt F)),
    nary ![main_v53, main_v54, main_v55, main_v56] main_v57 (fun u => (concatenate S4096x4 1 [⟨S4096x1, (u 0 : (⟨S4096x1, .i32⟩ : BufTy).Contents (Elt F))⟩, ⟨S4096x1, (u 1 : (⟨S4096x1, .i32⟩ : BufTy).Contents (Elt F))⟩, ⟨S4096x1, (u 2 : (⟨S4096x1, .i32⟩ : BufTy).Contents (Elt F))⟩, ⟨S4096x1, (u 3 : (⟨S4096x1, .i32⟩ : BufTy).Contents (Elt F))⟩] concatenates_S4096x1_S4096x1_S4096x1_S4096x1_S4096x4_d1 : (⟨S4096x4, .i32⟩ : BufTy).Contents (Elt F))) ]

/-- The first window of the program. -/
abbrev opsA : List (HloOp τ sig (Elt F)) :=
  opsZero ++ (at0.ops ++ (at1.ops ++ (at2.ops ++ (at3.ops ++ opsCols))))

/-- The whole program. -/
abbrev ops : List (HloOp τ sig (Elt F)) := opsA ++ opsStack

set_option maxRecDepth 16384 in
set_option maxHeartbeats 4000000 in
/-- The first window runs its list. -/
theorem main_part0_eq (c : Dev nD) : main_part0 (F := F) c = seq opsA := rfl
set_option maxRecDepth 8192 in
/-- The second window runs its list. -/
theorem main_part1_eq (c : Dev nD) : main_part1 (F := F) c = seq opsStack := rfl
/-- The program runs the whole list. -/
theorem main_eq (c : Dev nD) : main (F := F) c = seq ops := by
  rw [show (ops : List (HloOp τ sig (Elt F))) = opsA ++ opsStack from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of the pieces is one of every operation of the program. -/
theorem forall_ops {P : HloOp τ sig (Elt F) → Prop} (hz : ∀ op ∈ (opsZero : List (HloOp τ sig (Elt F))), P op)
    (hl : ∀ (B : Level), ∀ op ∈ B.ops (F := F), P op) (hc : ∀ op ∈ (opsCols : List (HloOp τ sig (Elt F))), P op)
    (hs : ∀ op ∈ (opsStack : List (HloOp τ sig (Elt F))), P op) : ∀ op ∈ (ops : List (HloOp τ sig (Elt F))), P op :=
  List.forall_mem_append.mpr ⟨List.forall_mem_append.mpr ⟨hz, List.forall_mem_append.mpr ⟨hl at0,
    List.forall_mem_append.mpr ⟨hl at1, List.forall_mem_append.mpr ⟨hl at2, List.forall_mem_append.mpr ⟨hl at3, hc⟩⟩⟩⟩⟩, hs⟩

theorem ops_sub : ∀ op ∈ (ops : List (HloOp τ sig (Elt F))), op.bufs ⊆ tcRefs τ sig :=
  forall_ops (List.forall_iff_forall_mem.mp ⟨nullary_bufs_sub .., unary_bufs_sub ..⟩) Level.ops_sub
    (List.forall_iff_forall_mem.mp ⟨unary_bufs_sub .., unary_bufs_sub ..⟩)
    (List.forall_iff_forall_mem.mp ⟨unary_bufs_sub .., unary_bufs_sub .., nary_bufs_sub ..⟩)

theorem ops_fresh : ∀ op ∈ (ops : List (HloOp τ sig (Elt F))), op.fresh = ∅ :=
  forall_ops (List.forall_iff_forall_mem.mp (forall_fresh_of_map rfl)) Level.ops_fresh
    (List.forall_iff_forall_mem.mp (forall_fresh_of_map rfl)) (List.forall_iff_forall_mem.mp (forall_fresh_of_map rfl))

/-- On every device, for any float values, from any memory with zero counters: the program terminates with every
    buffer as the list of operations leaves it. -/
theorem run_ops (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq
    (fun _ => List.forall_iff_forall_mem.mpr ops_sub) m ρ fun _ => ops_fresh

end Cert.Ref

end
-- ==== Proof.RefRead.lean ====
/- What each buffer of the reference program holds: a level read once as a function of the residual and the
   codebook, and applied at the buffers of each of the four. -/
module

public import proofs.«01_k».proof.Proof.RefOps

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The residual set against every codeword: `residual[:, None, :] - cb[None, :, :]`. -/
def diff (x : FVec F S4096x32 .f32) (cb : FVec F S1024x32 .f32) : FVec F S4096x1024x32 .f32 :=
  subf (broadcastInDim S4096x1024x32 ![0, 1, 2] bcast_S4096x1x32_S4096x1024x32_0_1_2
      (broadcastInDim S4096x1x32 ![0, 2] bcast_S4096x32_S4096x1x32_0_2 x))
    (broadcastInDim S4096x1024x32 ![0, 1, 2] bcast_S1x1024x32_S4096x1024x32_0_1_2
      (broadcastInDim S1x1024x32 ![1, 2] bcast_S1024x32_S1x1024x32_1_2 cb))

/-- The squared distances of every row to every codeword. -/
def dist (x : FVec F S4096x32 .f32) (cb : FVec F S1024x32 .f32) : FVec F S4096x1024 .f32 :=
  Host.reduceAdd (mulf (diff x cb) (diff x cb)) (constant S_ .f32 0x00000000#32)
    reducesTo_S4096x1024x32_S4096x1024_d2 h_S_

/-- The least entry of every row with its index. -/
def argPair (y : FVec F S4096x1024 .f32) : S4096.Idx → F .f32 × BitVec 32 :=
  Host.argReduce reducer_argmin_f32_i32 y (iotaInDim S4096x1024 32 1) (constant S_ .f32 0x7F800000#32)
    (constantI S_ 32 0#32) reducesTo_S4096x1024_S4096_d1 h_S_

/-- The index of the least entry of every row. -/
def arg (y : FVec F S4096x1024 .f32) : IVec S4096 32 := fun j => (argPair y j).2

/-- The index as the lookup uses it: counted from the end when negative, as a column. -/
def wrapped (k : IVec S4096 32) : IVec S4096x1 32 :=
  broadcastInDim S4096x1 ![0] bcast_S4096_S4096x1_0
    (select (cmpi .slt k (broadcastInDim S4096 ![] bcast_S_S4096 (constantI S_ 32 0#32)))
      (addi k (broadcastInDim S4096 ![] bcast_S_S4096 (constantI S_ 32 1024#32))) k)

/-- Whether the index lies in the codebook. -/
def inside (k : IVec S4096 32) : IVec S4096 1 :=
  Host.reduce IntOp.andi
    (andi (cmpi .sge (wrapped k) (broadcastInDim S4096x1 ![] bcast_S_S4096x1 (constantI S_ 32 0#32)))
      (cmpi .sle (wrapped k) (broadcastInDim S4096x1 ![0, 1] bcast_S1x1_S4096x1_0_1
        (broadcastInDim S1x1 ![1] bcast_S1_S1x1_1 (constantI S1 32 1023#32)))))
    (constantI S_ 1 1#1) reducesTo_S4096x1_S4096_d1 h_S_

/-- The rows of the codebook at the indices (a filler where an index is outside). -/
def rows (cb : FVec F S1024x32 .f32) (k : IVec S4096 32) : FVec F S4096x32 .f32 :=
  select (broadcastInDim S4096x32 ![0] bcast_S4096_S4096x32_0 (inside k))
    (Host.gather gather_S1024x32_S4096x1_S4096x32_1_0_n_n_0_1_132 cb (wrapped k))
    (broadcastInDim S4096x32 ![] bcast_S_S4096x32 (constant S_ .f32 0x7FC00000#32))

/-- A column of codes. -/
def col (k : IVec S4096 32) : IVec S4096x1 32 := broadcastInDim S4096x1 ![0] bcast_S4096_S4096x1_0 k

/-- Four columns of codes side by side. -/
def stack4 (a b c d : IVec S4096x1 32) : IVec S4096x4 32 :=
  concatenate S4096x4 1 [⟨S4096x1, a⟩, ⟨S4096x1, b⟩, ⟨S4096x1, c⟩, ⟨S4096x1, d⟩]
    concatenates_S4096x1_S4096x1_S4096x1_S4096x1_S4096x4_d1

/-- The codebook of level 0. -/
def book0 (cb : FVec F S4x1024x32 .f32) : FVec F S1024x32 .f32 :=
  shapeCast _ (extractStridedSlice S1x1024x32 ![0, 0, 0] cb slices_S4x1024x32_S1x1024x32_0_0_0) shapeCasts_S1x1024x32_S1024x32

/-- The codebook of level 1. -/
def book1 (cb : FVec F S4x1024x32 .f32) : FVec F S1024x32 .f32 :=
  shapeCast _ (extractStridedSlice S1x1024x32 ![1, 0, 0] cb slices_S4x1024x32_S1x1024x32_1_0_0) shapeCasts_S1x1024x32_S1024x32

/-- The codebook of level 2. -/
def book2 (cb : FVec F S4x1024x32 .f32) : FVec F S1024x32 .f32 :=
  shapeCast _ (extractStridedSlice S1x1024x32 ![2, 0, 0] cb slices_S4x1024x32_S1x1024x32_2_0_0) shapeCasts_S1x1024x32_S1024x32

/-- The codebook of level 3. -/
def book3 (cb : FVec F S4x1024x32 .f32) : FVec F S1024x32 .f32 :=
  shapeCast _ (extractStridedSlice S1x1024x32 ![3, 0, 0] cb slices_S4x1024x32_S1x1024x32_3_0_0) shapeCasts_S1x1024x32_S1024x32

/-! ### Reading a typed buffer -/

section Get

variable {T Ta Tb Tc Te Tz : BufTy} (V : Valuation τ sig (Elt F))

/-- The contents of a typed buffer. -/
def get (V : Valuation τ sig (Elt F)) (x : TRef sig T) : T.Contents (Elt F) := x.ofBuf (V (Proc.devRef .tc x.ref))

/-- What was put in at a type is what is read at it. -/
theorem of_to (y : TRef sig T) (v : T.Contents (Elt F)) : y.ofBuf (y.toBuf v) = v := by
  rw [TRef.ofBuf, TRef.toBuf, cast_cast, cast_eq]

/-- An operation leaves the buffers that it does not write. -/
theorem get_other {y : Ref sig .tc} (op : HloOp τ sig (Elt F)) (hw : op.writes = {Proc.devRef .tc y}) (z : TRef sig Tz) (h : z.ref ≠ y) :
    get (op.result V) z = get V z :=
  congrArg z.ofBuf (HloOp.result_of_not_mem _ _ (by rw [hw, Finset.mem_singleton]; exact devRef_ne_of_ne h))

theorem get_nul (y : TRef sig T) (v : T.Contents (Elt F)) : get ((nul y v).result V) y = v := by
  rw [get, nul, TRef.nullary, nullary_result]; exact of_to y _
theorem get_nul_ne (y : TRef sig T) (v : T.Contents (Elt F)) (z : TRef sig Tz) (h : z.ref ≠ y.ref) :
    get ((nul y v).result V) z = get V z := get_other V _ rfl z h
theorem get_un (a : TRef sig Ta) (y : TRef sig T) (f : Ta.Contents (Elt F) → T.Contents (Elt F)) :
    get ((un a y f).result V) y = f (get V a) := by
  rw [get, un, TRef.unary, unary_result]; exact of_to y _
theorem get_un_ne (a : TRef sig Ta) (y : TRef sig T) (f : Ta.Contents (Elt F) → T.Contents (Elt F)) (z : TRef sig Tz)
    (h : z.ref ≠ y.ref) : get ((un a y f).result V) z = get V z := get_other V _ rfl z h
theorem get_bin (a : TRef sig Ta) (b : TRef sig Tb) (y : TRef sig T)
    (f : Ta.Contents (Elt F) → Tb.Contents (Elt F) → T.Contents (Elt F)) :
    get ((bin a b y f).result V) y = f (get V a) (get V b) := by
  rw [get, bin, TRef.binary, binary_result]; exact of_to y _
theorem get_bin_ne (a : TRef sig Ta) (b : TRef sig Tb) (y : TRef sig T)
    (f : Ta.Contents (Elt F) → Tb.Contents (Elt F) → T.Contents (Elt F)) (z : TRef sig Tz) (h : z.ref ≠ y.ref) :
    get ((bin a b y f).result V) z = get V z := get_other V _ rfl z h
theorem get_tern (c : TRef sig Tc) (a : TRef sig Ta) (b : TRef sig Tb) (y : TRef sig T)
    (f : Tc.Contents (Elt F) → Ta.Contents (Elt F) → Tb.Contents (Elt F) → T.Contents (Elt F)) :
    get ((tern c a b y f).result V) y = f (get V c) (get V a) (get V b) := by
  rw [get, tern, TRef.ternary, ternary_result]; exact of_to y _
theorem get_tern_ne (c : TRef sig Tc) (a : TRef sig Ta) (b : TRef sig Tb) (y : TRef sig T)
    (f : Tc.Contents (Elt F) → Ta.Contents (Elt F) → Tb.Contents (Elt F) → T.Contents (Elt F)) (z : TRef sig Tz)
    (h : z.ref ≠ y.ref) : get ((tern c a b y f).result V) z = get V z := get_other V _ rfl z h
theorem get_quat (a : TRef sig Ta) (b : TRef sig Tb) (c : TRef sig Tc) (e : TRef sig Te) (y : TRef sig T)
    (f : Ta.Contents (Elt F) → Tb.Contents (Elt F) → Tc.Contents (Elt F) → Te.Contents (Elt F) → T.Contents (Elt F)) :
    get ((quat a b c e y f).result V) y = f (get V a) (get V b) (get V c) (get V e) := by
  rw [get, quat, TRef.quaternary, quaternary_result]; exact of_to y _
theorem get_quat_ne (a : TRef sig Ta) (b : TRef sig Tb) (c : TRef sig Tc) (e : TRef sig Te) (y : TRef sig T)
    (f : Ta.Contents (Elt F) → Tb.Contents (Elt F) → Tc.Contents (Elt F) → Te.Contents (Elt F) → T.Contents (Elt F))
    (z : TRef sig Tz) (h : z.ref ≠ y.ref) : get ((quat a b c e y f).result V) z = get V z := get_other V _ rfl z h
theorem get_resh (a : TRef sig Ta) (y : TRef sig T) (he : Ta.elt = T.elt) (hn : Ta.shape.ShapeCasts T.shape) :
    get ((resh a y he hn).result V) y = fun i => he ▸ shapeCast T.shape (get V a) hn i := by
  obtain ⟨a, rfl, a1, a2⟩ := a
  obtain ⟨y, rfl, y1, y2⟩ := y
  exact reshape_result _ _ _ _ ⟨a1, a2⟩ ⟨y1, y2⟩ V
theorem get_resh_ne (a : TRef sig Ta) (y : TRef sig T) (he : Ta.elt = T.elt) (hn : Ta.shape.ShapeCasts T.shape)
    (z : TRef sig Tz) (h : z.ref ≠ y.ref) : get ((resh a y he hn).result V) z = get V z := get_other V _ rfl z h

end Get

/-! ### One level -/

/-- The codes of a level for a residual. -/
def codes (x : FVec F S4096x32 .f32) (cb : FVec F S1024x32 .f32) : IVec S4096 32 := arg (dist x cb)

/-- The rows that a level picks for a residual. -/
def quant (x : FVec F S4096x32 .f32) (cb : FVec F S1024x32 .f32) : FVec F S4096x32 .f32 := rows cb (codes x cb)

namespace Level

/-- The codebook of the level. -/
def pick (B : Level) (cb : FVec F S4x1024x32 .f32) : FVec F S1024x32 .f32 :=
  shapeCast _ (extractStridedSlice S1x1024x32 B.start cb B.cut) shapeCasts_S1x1024x32_S1024x32

/-- The buffers of a level are different where its operations need them to be. -/
structure Apart (B : Level) : Prop where
  dist : (B.cb.ref :: B.x.ref :: B.distW).Nodup
  arg : (B.dst.ref :: B.argW).Nodup
  take : (B.code.ref :: B.book.ref :: B.takeW).Nodup
  upd : (B.sum.ref :: B.x.ref :: B.row.ref :: B.updW).Nodup
  arg_book : B.book.ref ∉ B.argW
  upd_code : B.code.ref ∉ B.updW
  take_code : B.code.ref ∉ B.takeW
  sum : B.sum.ref ∉ B.distW ∧ B.sum.ref ∉ B.argW ∧ B.sum.ref ∉ B.takeW
  x : B.x.ref ∉ B.distW ∧ B.x.ref ∉ B.argW ∧ B.x.ref ∉ B.takeW

variable (B : Level) (h : B.Apart) (V : Valuation τ sig (Elt F)) {T : BufTy}

theorem dist_keep (z : TRef sig T) (hz : z.ref ∉ B.distW) : get (after B.distOps V) z = get V z :=
  congrArg z.ofBuf (after_of_writes_sub B.distOps V (forall_writes_sub_of_map rfl) hz)
theorem arg_keep (z : TRef sig T) (hz : z.ref ∉ B.argW) : get (after B.argOps V) z = get V z :=
  congrArg z.ofBuf (after_of_writes_sub B.argOps V (forall_writes_sub_of_map rfl) hz)
theorem take_keep (z : TRef sig T) (hz : z.ref ∉ B.takeW) : get (after B.takeOps V) z = get V z :=
  congrArg z.ofBuf (after_of_writes_sub B.takeOps V (forall_writes_sub_of_map rfl) hz)
theorem upd_keep (z : TRef sig T) (hz : z.ref ∉ B.updW) : get (after B.updOps V) z = get V z :=
  congrArg z.ofBuf (after_of_writes_sub B.updOps V (forall_writes_sub_of_map rfl) hz)

/-- A buffer that the level does not write keeps its contents. -/
theorem keep (z : TRef sig T) (hz : z.ref ∉ B.W) : get (after B.ops V) z = get V z := by
  simp only [W, List.mem_append, not_or] at hz
  rw [ops, after_append, after_append, after_append, upd_keep _ _ z hz.2.2.2, take_keep _ _ z hz.2.2.1,
    arg_keep _ _ z hz.2.1, dist_keep _ _ z hz.1]

include h

theorem book_eq : get (after B.distOps V) B.book = B.pick (get V B.cb) := by
  have n := h.dist
  have n' := List.nodup_reverse.mpr h.dist
  simp [distW] at n n'
  simp [distOps, get_nul, get_nul_ne, get_un, get_un_ne, get_bin, get_bin_ne, get_resh, get_resh_ne, n, n']
  rfl

theorem dist_eq : get (after B.distOps V) B.dst = Cert.Ref.dist (get V B.x) (B.pick (get V B.cb)) := by
  have n := h.dist
  have n' := List.nodup_reverse.mpr h.dist
  simp [distW] at n n'
  simp [distOps, get_nul, get_nul_ne, get_un, get_un_ne, get_bin, get_bin_ne, get_resh, get_resh_ne, n, n']
  rfl

theorem arg_eq : get (after B.argOps V) B.code = Cert.Ref.arg (get V B.dst) := by
  have n := h.arg
  have n' := List.nodup_reverse.mpr h.arg
  simp [argW] at n n'
  simp [argOps, get_nul, get_nul_ne, get_quat, get_quat_ne, n, n']
  rfl

theorem rows_eq : get (after B.takeOps V) B.row = rows (get V B.book) (get V B.code) := by
  have n := h.take
  have n' := List.nodup_reverse.mpr h.take
  simp [takeW] at n n'
  simp [takeOps, get_nul, get_nul_ne, get_un, get_un_ne, get_bin, get_bin_ne, get_tern, get_tern_ne, n, n']
  rfl

theorem sum_eq : get (after B.updOps V) B.sum1 = addf (get V B.sum) (get V B.row) := by
  have n := h.upd
  simp [updW] at n
  simp [updOps, get_bin, get_bin_ne, n]

theorem res_eq : get (after B.updOps V) B.x1 = subf (get V B.x) (get V B.row) := by
  have n := h.upd
  simp [updW] at n
  simp [updOps, get_bin, get_bin_ne, n]

/-- What a level leaves, from the residual `x`, the sum `s` and the codebooks `cb` that it finds: the codes, the sum
    and the residual. -/
theorem step {x s : FVec F S4096x32 .f32} {cb : FVec F S4x1024x32 .f32} (hx : get V B.x = x) (hs : get V B.sum = s)
    (hc : get V B.cb = cb) :
    get (after B.ops V) B.code = codes x (B.pick cb) ∧ get (after B.ops V) B.sum1 = addf s (quant x (B.pick cb))
      ∧ get (after B.ops V) B.x1 = subf x (quant x (B.pick cb)) := by
  subst hx hs hc
  rw [ops, after_append, after_append, after_append]
  refine ⟨?_, ?_, ?_⟩
  · rw [upd_keep _ _ _ h.upd_code, take_keep _ _ _ h.take_code, arg_eq B h, dist_eq B h]
    rfl
  · rw [sum_eq B h, rows_eq B h, take_keep _ _ _ h.sum.2.2, arg_keep _ _ _ h.sum.2.1, dist_keep _ _ _ h.sum.1, arg_eq B h,
      arg_keep _ _ _ h.arg_book, book_eq B h, dist_eq B h]
    rfl
  · rw [res_eq B h, rows_eq B h, take_keep _ _ _ h.x.2.2, arg_keep _ _ _ h.x.2.1, dist_keep _ _ _ h.x.1, arg_eq B h,
      arg_keep _ _ _ h.arg_book, book_eq B h, dist_eq B h]
    rfl

end Level

/-! ### The whole program -/

set_option maxRecDepth 8192 in
theorem apart0 : at0.Apart := ⟨by decide, by decide, by decide, by decide, by decide, by decide, by decide, by decide, by decide⟩
set_option maxRecDepth 8192 in
theorem apart1 : at1.Apart := ⟨by decide, by decide, by decide, by decide, by decide, by decide, by decide, by decide, by decide⟩
set_option maxRecDepth 8192 in
theorem apart2 : at2.Apart := ⟨by decide, by decide, by decide, by decide, by decide, by decide, by decide, by decide, by decide⟩
set_option maxRecDepth 8192 in
theorem apart3 : at3.Apart := ⟨by decide, by decide, by decide, by decide, by decide, by decide, by decide, by decide, by decide⟩

/-- The residual after one level. -/
def res1 (x : FVec F S4096x32 .f32) (cb : FVec F S4x1024x32 .f32) : FVec F S4096x32 .f32 := subf x (quant x (book0 cb))
/-- The residual after two levels. -/
def res2 (x : FVec F S4096x32 .f32) (cb : FVec F S4x1024x32 .f32) : FVec F S4096x32 .f32 :=
  subf (res1 x cb) (quant (res1 x cb) (book1 cb))
/-- The residual after three levels. -/
def res3 (x : FVec F S4096x32 .f32) (cb : FVec F S4x1024x32 .f32) : FVec F S4096x32 .f32 :=
  subf (res2 x cb) (quant (res2 x cb) (book2 cb))

/-- The first result: the sum of the rows picked. -/
def total (x : FVec F S4096x32 .f32) (cb : FVec F S4x1024x32 .f32) : FVec F S4096x32 .f32 :=
  addf (addf (addf (addf (broadcastInDim S4096x32 ![] bcast_S_S4096x32 (constant S_ .f32 0x00000000#32))
    (quant x (book0 cb))) (quant (res1 x cb) (book1 cb))) (quant (res2 x cb) (book2 cb))) (quant (res3 x cb) (book3 cb))

/-- The second result: the codes of the four levels as columns. -/
def allCodes (x : FVec F S4096x32 .f32) (cb : FVec F S4x1024x32 .f32) : IVec S4096x4 32 :=
  stack4 (col (codes x (book0 cb))) (col (codes (res1 x cb) (book1 cb))) (col (codes (res2 x cb) (book2 cb)))
    (col (codes (res3 x cb) (book3 cb)))

theorem zero_keep (V : Valuation τ sig (Elt F)) (r : Ref sig .tc) (h : r ∉ [main_cst, main_v0]) :
    after opsZero V (Proc.devRef .tc r) = V (Proc.devRef .tc r) :=
  after_of_writes_sub opsZero V (forall_writes_sub_of_map rfl) h
theorem cols_keep (V : Valuation τ sig (Elt F)) (r : Ref sig .tc) (h : r ∉ [main_v53, main_v54]) :
    after opsCols V (Proc.devRef .tc r) = V (Proc.devRef .tc r) :=
  after_of_writes_sub opsCols V (forall_writes_sub_of_map rfl) h
theorem stack_keep (V : Valuation τ sig (Elt F)) (r : Ref sig .tc) (h : r ∉ [main_v55, main_v56, main_v57]) :
    after opsStack V (Proc.devRef .tc r) = V (Proc.devRef .tc r) :=
  after_of_writes_sub opsStack V (forall_writes_sub_of_map rfl) h

theorem zero_sum (V : Valuation τ sig (Elt F)) : after opsZero V (Proc.devRef .tc main_v0)
    = broadcastInDim S4096x32 ![] bcast_S_S4096x32 (constant S_ .f32 0x00000000#32) := by
  after_results_simp

/-- The second result, from the codes of the four levels. -/
theorem stack_codes (V : Valuation τ sig (Elt F)) : after opsStack (after opsCols V) (Proc.devRef .tc main_v57)
    = stack4 (col (V (Proc.devRef .tc main_v10))) (col (V (Proc.devRef .tc main_v23))) (col (V (Proc.devRef .tc main_v36)))
      (col (V (Proc.devRef .tc main_v49))) := by
  after_results_simp
  dsimp only [Matrix.cons_val]
  rfl

/-- The two results and the arguments after the whole list. -/
theorem read (V : Valuation τ sig (Elt F)) :
    after ops V (Proc.devRef .tc main_v51) = total (V (Proc.devRef .tc main_arg0)) (V (Proc.devRef .tc main_arg1))
    ∧ after ops V (Proc.devRef .tc main_v57) = allCodes (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  have e : after ops V = after opsStack (after opsCols (after at3.ops (after at2.ops (after at1.ops (after at0.ops
      (after opsZero V)))))) := by simp only [ops, opsA, after_append]
  have x0 := zero_keep V main_arg0 (by decide)
  have c0 := zero_keep V main_arg1 (by decide)
  have s0 := zero_sum V
  rw [e]
  generalize after opsZero V = V0 at x0 c0 s0 ⊢
  obtain ⟨k1, s1, r1⟩ := at0.step apart0 V0 x0 s0 c0
  have x1 := (at0.keep V0 (.of main_arg0 : TRef sig ⟨S4096x32, .f32⟩) (by decide)).trans x0
  have c1 := (at0.keep V0 at1.cb (by decide)).trans c0
  generalize after at0.ops V0 = V1 at k1 s1 r1 x1 c1 ⊢
  obtain ⟨k2, s2, r2⟩ := at1.step apart1 V1 r1 s1 c1
  have x2 := (at1.keep V1 (.of main_arg0 : TRef sig ⟨S4096x32, .f32⟩) (by decide)).trans x1
  have c2 := (at1.keep V1 at2.cb (by decide)).trans c1
  have k1 := (at1.keep V1 at0.code (by decide)).trans k1
  generalize after at1.ops V1 = V2 at k1 k2 s2 r2 x2 c2 ⊢
  obtain ⟨k3, s3, r3⟩ := at2.step apart2 V2 r2 s2 c2
  have x3 := (at2.keep V2 (.of main_arg0 : TRef sig ⟨S4096x32, .f32⟩) (by decide)).trans x2
  have c3 := (at2.keep V2 at3.cb (by decide)).trans c2
  have k1 := (at2.keep V2 at0.code (by decide)).trans k1
  have k2 := (at2.keep V2 at1.code (by decide)).trans k2
  generalize after at2.ops V2 = V3 at k1 k2 k3 s3 r3 x3 c3 ⊢
  obtain ⟨k4, s4, -⟩ := at3.step apart3 V3 r3 s3 c3
  have x4 := (at3.keep V3 (.of main_arg0 : TRef sig ⟨S4096x32, .f32⟩) (by decide)).trans x3
  have c4 := (at3.keep V3 at3.cb (by decide)).trans c3
  have k1 := (at3.keep V3 at0.code (by decide)).trans k1
  have k2 := (at3.keep V3 at1.code (by decide)).trans k2
  have k3 := (at3.keep V3 at2.code (by decide)).trans k3
  generalize after at3.ops V3 = V4 at k1 k2 k3 k4 s4 x4 c4 ⊢
  refine ⟨?_, ?_, ?_, ?_⟩
  · exact (stack_keep _ main_v51 (by decide)).trans ((cols_keep _ main_v51 (by decide)).trans s4)
  · refine (stack_codes V4).trans ?_
    exact congr (congr (congr (congrArg stack4 (congrArg col k1)) (congrArg col k2)) (congrArg col k3)) (congrArg col k4)
  · exact (stack_keep _ main_arg0 (by decide)).trans ((cols_keep _ main_arg0 (by decide)).trans x4)
  · exact (stack_keep _ main_arg1 (by decide)).trans ((cols_keep _ main_arg1 (by decide)).trans c4)

/-- The two results and the arguments when the program ends, as functions of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = total (m ((c.tc : Thread nD τ).loc main_arg0)) (m ((c.tc : Thread nD τ).loc main_arg1))
      ∧ r.2.mem ((c.tc : Thread nD τ).loc main_v57) = allCodes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v51).trans (read _).1, (h c main_v57).trans (read _).2.1,
    (h c main_arg0).trans (read _).2.2.1, (h c main_arg1).trans (read _).2.2.2⟩) (run_ops m ρ)

end Cert.Ref

end
-- ==== Proof.Best.lean ====
/- The first index at which a function is least, found at once or block by block, and the distances a quantizer
   compares: the squared distance of a row to a codeword, and the part of it that depends on the codeword. -/
module

public import Idealize.ShloMosaic.Lib.Pointwise

@[expose] public section

noncomputable section

namespace Cert.Math

/-- `k` is the first of the indices below `n` at which `f` is least. -/
def First (f : ℕ → EReal) (n k : ℕ) : Prop := k < n ∧ (∀ i < n, f k ≤ f i) ∧ ∀ i < k, f k < f i

/-- There is at most one first least index. -/
theorem First.unique {f : ℕ → EReal} {n k l : ℕ} (h : First f n k) (h' : First f n l) : k = l := by
  rcases lt_trichotomy k l with c | c | c
  · exact absurd (h'.2.2 k c) (not_lt.mpr (h.2.1 l h'.1))
  · exact c
  · exact absurd (h.2.2 l c) (not_lt.mpr (h'.2.1 k h.1))

/-- There is a first least index. -/
theorem exists_first (f : ℕ → EReal) {n : ℕ} (hn : 0 < n) : ∃ k, First f n k := by
  classical
  obtain ⟨a, ha, hmin⟩ := (Finset.range n).exists_min_image f ⟨0, Finset.mem_range.mpr hn⟩
  have hex : ∃ k, k < n ∧ ∀ i < n, f k ≤ f i :=
    ⟨a, Finset.mem_range.mp ha, fun i hi => hmin i (Finset.mem_range.mpr hi)⟩
  refine ⟨Nat.find hex, (Nat.find_spec hex).1, (Nat.find_spec hex).2, fun i hi => ?_⟩
  by_contra hc
  exact Nat.find_min hex hi
    ⟨hi.trans (Nat.find_spec hex).1, fun j hj => (not_lt.mp hc).trans ((Nat.find_spec hex).2 j hj)⟩

open Classical in
/-- The first of the indices below `n` at which `f` is least. -/
def best (f : ℕ → EReal) (n : ℕ) : ℕ := if h : ∃ k, First f n k then h.choose else 0

theorem best_first (f : ℕ → EReal) {n : ℕ} (hn : 0 < n) : First f n (best f n) := by
  have h := exists_first f hn
  rw [best, dif_pos h]
  exact h.choose_spec

theorem First.eq_best {f : ℕ → EReal} {n k : ℕ} (h : First f n k) : k = best f n :=
  h.unique (best_first f (Nat.lt_of_le_of_lt (Nat.zero_le _) h.1))

/-- Functions that order the indices alike have the same first least index. -/
theorem First.congr {f g : ℕ → EReal} {n k : ℕ} (h : ∀ i < n, ∀ j < n, f i ≤ f j ↔ g i ≤ g j)
    (hk : First f n k) : First g n k :=
  ⟨hk.1, fun i hi => (h k hk.1 i hi).mp (hk.2.1 i hi), fun i hi => by
    have := hk.2.2 i hi
    rw [← not_le] at this ⊢
    exact fun c => this ((h i (hi.trans hk.1) k hk.1).mpr c)⟩

/-- The first least index of two stretches, from the first least index of each: the later one is taken only when it
    is strictly smaller. -/
theorem First.append {f : ℕ → EReal} {m n j c : ℕ} (hj : First f m j) (hc : First (fun l => f (m + l)) n c) :
    First f (m + n) (if f (m + c) < f j then m + c else j) := by
  have split : ∀ i, i < m + n → i < m ∨ ∃ l, l < n ∧ i = m + l := fun i hi => by
    rcases Nat.lt_or_ge i m with h | h
    · exact .inl h
    · exact .inr ⟨i - m, by omega, by omega⟩
  split_ifs with h
  · refine ⟨by have := hc.1; omega, fun i hi => ?_, fun i hi => ?_⟩
    · rcases split i hi with h' | ⟨l, hl, rfl⟩
      · exact h.le.trans (hj.2.1 i h')
      · exact hc.2.1 l hl
    · rcases split i (by have := hc.1; omega) with h' | ⟨l, hl, rfl⟩
      · exact h.trans_le (hj.2.1 i h')
      · exact hc.2.2 l (by omega)
  · refine ⟨by have := hj.1; omega, fun i hi => ?_, hj.2.2⟩
    rcases split i hi with h' | ⟨l, hl, rfl⟩
    · exact hj.2.1 i h'
    · exact (not_lt.mp h).trans (hc.2.1 l hl)

/-- The least value over a block, from `⊤`, is the value at the first least index. -/
theorem First.fold_min {g : ℕ → EReal} {n c : ℕ} (h : First g n c) :
    (Finset.univ : Finset (Fin n)).fold min ⊤ (fun l : Fin n => g l.val) = g c := by
  apply le_antisymm
  · exact (Finset.fold_min_le _).mpr (.inr ⟨⟨c, h.1⟩, Finset.mem_univ _, le_rfl⟩)
  · exact (Finset.le_fold_min _).mpr ⟨le_top, fun l _ => h.2.1 l.val l.2⟩

/-- The squared distance of a row to codeword `k`. -/
def far (r : Fin 32 → EReal) (C : ℕ → Fin 32 → EReal) (k : ℕ) : EReal :=
  ∑ d : Fin 32, (r d - C k d) * (r d - C k d)

/-- The squared distance less the squared length of the row. -/
def near (r : Fin 32 → EReal) (C : ℕ → Fin 32 → EReal) (k : ℕ) : EReal :=
  (∑ d : Fin 32, C k d * C k d) - ((2 : ℝ) : EReal) * ∑ d : Fin 32, r d * C k d

/-- Every entry of the row is a real number. -/
def Real (r : Fin 32 → EReal) : Prop := ∃ ρ : Fin 32 → ℝ, ∀ d, r d = (ρ d : EReal)

/-- A sum of reals in the extended reals. -/
theorem coe_sum (f : Fin 32 → ℝ) : (∑ d, (f d : EReal)) = ((∑ d, f d : ℝ) : EReal) := by
  classical
  refine Finset.induction_on (Finset.univ : Finset (Fin 32)) (by simp) fun a s ha ih => ?_
  rw [Finset.sum_insert ha, Finset.sum_insert ha, ih, EReal.coe_add]

/-- On real numbers the squared distance is a real, and exceeds `near` by the squared length of the row. -/
theorem near_far {r : Fin 32 → EReal} {C : ℕ → Fin 32 → EReal} (ρ : Fin 32 → ℝ) (hr : ∀ d, r d = (ρ d : EReal))
    {k : ℕ} (hC : Real (C k)) :
    ∃ a : ℝ, near r C k = (a : EReal) ∧ far r C k = ((a + ∑ d, ρ d * ρ d : ℝ) : EReal) := by
  obtain ⟨γ, hγ⟩ := hC
  refine ⟨(∑ d, γ d * γ d) - 2 * ∑ d, ρ d * γ d, ?_, ?_⟩
  · simp only [near, hr, hγ, ← EReal.coe_mul, coe_sum, EReal.coe_sub]
  · simp only [far, hr, hγ, ← EReal.coe_mul, ← EReal.coe_sub, coe_sum, EReal.coe_eq_coe_iff]
    rw [Finset.mul_sum, ← Finset.sum_sub_distrib, ← Finset.sum_add_distrib]
    exact Finset.sum_congr rfl fun d _ => by ring

/-- The nearest codeword can be found without the squared length of the row. -/
theorem best_near {r : Fin 32 → EReal} {C : ℕ → Fin 32 → EReal} (hr : Real r) {n : ℕ} (hn : 0 < n)
    (hC : ∀ k < n, Real (C k)) : best (near r C) n = best (far r C) n := by
  obtain ⟨ρ, hρ⟩ := hr
  refine ((best_first (near r C) hn).congr fun i hi j hj => ?_).eq_best
  obtain ⟨a, ha, ha'⟩ := near_far ρ hρ (hC i hi)
  obtain ⟨b, hb, hb'⟩ := near_far ρ hρ (hC j hj)
  rw [ha, ha', hb, hb', EReal.coe_le_coe_iff, EReal.coe_le_coe_iff]
  exact (add_le_add_iff_right _).symm

theorem near_lt_top {r : Fin 32 → EReal} {C : ℕ → Fin 32 → EReal} (hr : Real r) {k : ℕ} (hC : Real (C k)) :
    near r C k < ⊤ := by
  obtain ⟨ρ, hρ⟩ := hr
  obtain ⟨a, ha, -⟩ := near_far ρ hρ hC
  rw [ha]; exact EReal.coe_lt_top a

theorem far_lt_top {r : Fin 32 → EReal} {C : ℕ → Fin 32 → EReal} (hr : Real r) {k : ℕ} (hC : Real (C k)) :
    far r C k < ⊤ := by
  obtain ⟨ρ, hρ⟩ := hr
  obtain ⟨a, -, ha⟩ := near_far ρ hρ hC
  rw [ha]; exact EReal.coe_lt_top _

/-- The code of a row: the nearest of 1024 codewords, the first one on a tie. -/
def code (r : Fin 32 → EReal) (C : ℕ → Fin 32 → EReal) : ℕ := best (far r C) 1024

/-- What is left of a row once its nearest codeword is taken away. -/
def rest (r : Fin 32 → EReal) (C : ℕ → Fin 32 → EReal) : Fin 32 → EReal := fun d => r d - C (code r C) d

theorem code_lt (r : Fin 32 → EReal) (C : ℕ → Fin 32 → EReal) : code r C < 1024 := (best_first _ (by norm_num)).1

theorem Real.rest {r : Fin 32 → EReal} {C : ℕ → Fin 32 → EReal} (hr : Real r) (hC : ∀ k < 1024, Real (C k)) :
    Real (rest r C) := by
  obtain ⟨ρ, hρ⟩ := hr
  obtain ⟨γ, hγ⟩ := hC _ (code_lt r C)
  exact ⟨fun d => ρ d - γ d, fun d => by rw [Math.rest, hρ, hγ, EReal.coe_sub]⟩

end Cert.Math

end
-- ==== Proof.Trip.lean ====
/- One trip of the kernel's search at the ideal instance: from the best of the codewords seen so far to the best after
   128 more. All four searches of the kernel are of this form, each over its own residual. -/
module

public import proofs.«01_k».proof.Proof.Best
public import proofs.«01_k».proof.Proof.Gen.KernelIdeal.Skeleton
public import Idealize.ShloMosaic.Lib.SortNet.Extract

@[expose] public section

noncomputable section

namespace Cert.Trip

open Cert.KernelIdeal Cert.KernelIdeal.Gen Idealize.ShloMosaic Cert.Math

/-- The pattern `0x40000000` is the real number two. -/
theorem two : Ideal.ofBits .f32 0x40000000#32 = ((2 : ℝ) : EReal) := by
  simp [Ideal.ofBits, Ideal.ieee, -EReal.coe_mul]; norm_num

/-- The pattern `0x7F800000` is `⊤`. -/
theorem top : Ideal.ofBits .f32 0x7F800000#32 = ⊤ := by simp [Ideal.ofBits, Ideal.ieee]

/-- What is carried from trip to trip, at row `p`: after `t` trips, the least `near` over the first `128 * t`
    codewords, the first index it is attained at, and the codeword there; before the first trip the value is `⊤`. -/
def Good (f : ℕ → EReal) (C : ℕ → Fin 32 → EReal) (t : ℕ) (b : EReal) (n : BitVec 32) (w : Fin 32 → EReal) : Prop :=
  (t = 0 ∧ b = ⊤) ∨ ∃ j, First f (128 * t) j ∧ b = f j ∧ n = BitVec.ofNat 32 j ∧ w = C j

section Chunk

variable (r : Vec Ideal S256x32 .f32) (v : Vec Ideal S1x128x32 .f32) (p : Fin 256)

/-- The scores of a row against the codewords of the block. -/
theorem scores (l : Fin 128) :
    k0_pay19 (F := Ideal) r v (ix2 p l)
      = (∑ d : Fin 32, v (ix3 0 l d) * v (ix3 0 l d)) - ((2 : ℝ) : EReal) * ∑ d : Fin 32, r (ix2 p d) * v (ix3 0 l d) := by
  pointwise [k0_pay19, k0_pay18]
  rw [show Ideal.ofBits .f32 1073741824#32 = ((2 : ℝ) : EReal) from two]

variable {g : ℕ → EReal} {c : ℕ} (hg : ∀ l : Fin 128, k0_pay19 (F := Ideal) r v (ix2 p l) = g l.val) (hc : First g 128 c)

include hg hc

/-- The least score of the block. -/
theorem least : k0_pay20 (F := Ideal) r v (ix1 p) = g c := by
  pointwise [k0_pay20]
  rw [show Ideal.ofBits .f32 2139095040#32 = ⊤ from top]
  simp only [hg]
  exact hc.fold_min

/-- The lane of the least score: the smallest of the lanes whose score is the least. -/
theorem lane : k0_pay21 (F := Ideal) r v (ix1 p) = BitVec.ofNat 32 c := by
  pointwise [k0_pay21]
  simp only [hg, least r v p hg hc]
  apply BitVec.eq_of_toInt_eq
  have hfold : ∀ s : Finset (Fin 128),
      (s.fold IntOp.minsi 2147483647#32 fun x : Fin 128 => if g x.val = g c then BitVec.ofNat 32 x.val else 128#32).toInt
        = s.fold min (2147483647#32).toInt fun x : Fin 128 => if g x.val = g c then (x.val : ℤ) else 128 := fun s => by
    classical
    induction s using Finset.induction_on with
    | empty => rfl
    | insert a s ha ih =>
      rw [Finset.fold_insert ha, Finset.fold_insert ha, SortNet.toInt_minsi, ih]
      congr 1
      split_ifs
      · rw [BitVec.toInt_eq_toNat_of_lt, BitVec.toNat_ofNat] <;> simp <;> omega
      · rfl
  rw [hfold, show (BitVec.ofNat 32 c).toInt = (c : ℤ) from by
    have := hc.1
    rw [BitVec.toInt_eq_toNat_of_lt, BitVec.toNat_ofNat] <;> simp <;> omega]
  apply le_antisymm
  · exact (Finset.fold_min_le _).mpr (.inr ⟨⟨c, hc.1⟩, Finset.mem_univ _, by simp⟩)
  · refine (Finset.le_fold_min _).mpr ⟨?_, fun l _ => ?_⟩
    · have := hc.1
      have h2 : (2147483647#32).toInt = 2147483647 := rfl
      omega
    · have := hc.1
      split_ifs with h
      · by_contra hlt
        exact absurd h (ne_of_gt (hc.2.2 l.val (by omega)))
      · omega

/-- A sum of a codeword's entries over the lanes, each lane counted when it is the chosen one. -/
theorem pick (d : Fin 32) :
    ∑ x : Fin 128, FloatOps.sitofp (F := Ideal) .f32 (BitVec.setWidth 32
        (IntOp.cmpi .eq (BitVec.ofNat 32 x.val) (k0_pay21 (F := Ideal) r v (ix1 p)))) * v (ix3 0 x d)
      = v (ix3 0 ⟨c, hc.1⟩ d) := by
  rw [lane r v p hg hc, Finset.sum_eq_single ⟨c, hc.1⟩]
  · rw [show IntOp.cmpi .eq (BitVec.ofNat 32 c) (BitVec.ofNat 32 c) = 1#1 from by simp [IntOp.cmpi]]
    change ((((1 : ℤ) : ℝ)) : EReal) * _ = _
    simp
  · intro x _ hx
    have hne : BitVec.ofNat 32 x.val ≠ BitVec.ofNat 32 c := fun h => hx (Fin.ext (by
      have := congrArg BitVec.toNat h
      have := hc.1
      simp only [BitVec.toNat_ofNat] at *
      omega))
    rw [show IntOp.cmpi .eq (BitVec.ofNat 32 x.val) (BitVec.ofNat 32 c) = 0#1 from by
      simp [IntOp.cmpi, beq_eq_false_iff_ne.mpr hne]]
    change ((((0 : ℤ) : ℝ)) : EReal) * _ = _
    simp
  · exact fun h => absurd (Finset.mem_univ _) h

end Chunk

/-- A trip keeps the invariant: the values carried out of trip `t` are the best of the first `128 * (t + 1)`. -/
theorem Good.next {r : Vec Ideal S256x32 .f32} {v : Vec Ideal S1x128x32 .f32} {b : FVec Ideal S256 .f32}
    {n : IVec S256 32} {w : FVec Ideal S256x32 .f32} {p : Fin 256} {C : ℕ → Fin 32 → EReal} {t : Fin k0_t1_loop.trips}
    (hv : ∀ (l : Fin 128) (d : Fin 32), v (ix3 0 l d) = C (128 * t.val + l.val) d)
    (hfin : ∀ k < 1024, near (fun d => r (ix2 p d)) C k < ⊤)
    (h : Good (near (fun d => r (ix2 p d)) C) C t.val (b (ix1 p)) (n (ix1 p)) fun d => w (ix2 p d)) :
    Good (near (fun d => r (ix2 p d)) C) C (t.val + 1) (k0_pay23 (F := Ideal) r b v (ix1 p))
      (k0_pay24 (F := Ideal) r t b n v (ix1 p)) fun d => k0_pay25 (F := Ideal) r b w v (ix2 p d) := by
  have ht : t.val < 8 := t.2
  obtain ⟨c, hc⟩ := exists_first (fun l => near (fun d => r (ix2 p d)) C (128 * t.val + l)) (n := 128) (by norm_num)
  have hg : ∀ l : Fin 128, k0_pay19 (F := Ideal) r v (ix2 p l)
      = (fun l => near (fun d => r (ix2 p d)) C (128 * t.val + l)) l.val := fun l => by
    rw [scores]; simp only [hv, near]
  have h20 := least r v p hg hc
  have h21 := lane r v p hg hc
  have hcl := hc.1
  have e23 : k0_pay23 (F := Ideal) r b v (ix1 p)
      = if near (fun d => r (ix2 p d)) C (128 * t.val + c) < b (ix1 p)
          then near (fun d => r (ix2 p d)) C (128 * t.val + c) else b (ix1 p) := by
    pointwise [k0_pay23, k0_pay22]
    simp only [h20]
  have e24 : k0_pay24 (F := Ideal) r t b n v (ix1 p)
      = if near (fun d => r (ix2 p d)) C (128 * t.val + c) < b (ix1 p)
          then BitVec.ofNat 32 (128 * t.val + c) else n (ix1 p) := by
    have hword : IntOp.addi (BitVec.ofNat 32 c) (Scalar.muli (Scf.iv 0#32 1#32 t.val) 128#32)
        = BitVec.ofNat 32 (128 * t.val + c) := by
      apply BitVec.eq_of_toNat_eq
      simp [IntOp.addi, Scalar.muli, IntOp.muli, Scf.iv]
      omega
    pointwise [k0_pay24, k0_pay22]
    rw [h20, h21, hword]
  have e25 : ∀ d, k0_pay25 (F := Ideal) r b w v (ix2 p d)
      = if near (fun d => r (ix2 p d)) C (128 * t.val + c) < b (ix1 p) then C (128 * t.val + c) d else w (ix2 p d) := fun d => by
    pointwise [k0_pay25, k0_pay22, k0_pay18]
    rw [pick r v p hg hc d, hv]
    simp only [h20]
  rw [e23, e24]
  simp only [e25]
  right
  rcases h with ⟨h0, hb⟩ | ⟨j, hj, hb, hn, hw⟩
  · have hlt := hfin (128 * t.val + c) (by omega)
    rw [hb, if_pos hlt, if_pos hlt]
    simp only [if_pos hlt]
    refine ⟨128 * t.val + c, ?_, rfl, rfl, rfl⟩
    simp only [h0, Nat.mul_zero, Nat.zero_add] at hc ⊢
    exact hc
  · refine ⟨_, hj.append hc, ?_, ?_, ?_⟩
    · rw [hb]; split_ifs <;> rfl
    · rw [hb, hn]; split_ifs <;> rfl
    · rw [hb]; split_ifs
      · rfl
      · exact hw

/-- After the last trip the index is the row's code and the row carried is its codeword. -/
theorem Good.last {r : Fin 32 → EReal} {C : ℕ → Fin 32 → EReal} (hr : Real r) (hC : ∀ k < 1024, Real (C k)) {b : EReal}
    {n : BitVec 32} {w : Fin 32 → EReal} (h : Good (near r C) C 8 b n w) :
    n = BitVec.ofNat 32 (code r C) ∧ w = C (code r C) := by
  rcases h with ⟨h, -⟩ | ⟨j, hj, -, hn, hw⟩
  · exact absurd h (by norm_num)
  · have : j = code r C := hj.eq_best.trans (best_near hr (by norm_num) hC)
    rw [← this]; exact ⟨hn, hw⟩

end Cert.Trip

end
-- ==== Proof.Search.lean ====
/- The four searches of the kernel as one function of a residual and a codebook: what the loops carry, trip by trip. -/
module

public import proofs.«01_k».proof.Proof.Trip
public import proofs.«01_k».proof.Proof.Gen.KernelIdeal.Frame

@[expose] public section

noncomputable section

namespace Cert.Search

open Cert.KernelIdeal Cert.KernelIdeal.Gen Idealize.ShloMosaic Idealize.ShloMosaic.TcCoe Idealize.ShloMosaic.Tactic

variable {F : FTy → Type} [FloatOps F]

/-- The 128 codewords of level `n` that trip `k` reads. -/
def chunk (x : Vec F S4x1024x32 .f32) (n : Fin 4) (k : Fin 8) : Vec F S1x128x32 .f32 := fun j =>
  x (ix3 n ⟨128 * k.val + (j 1).val, by have h : (j 1).val < 128 := (j 1).2; have := k.2; omega⟩ (j 2))

/-- What a search over the residual `r` carries into trip `k`: the least score so far, its index and its codeword. -/
def carried (r : Vec F S256x32 .f32) (x : Vec F S4x1024x32 .f32) (n : Fin 4) :
    ℕ → FVec F S256 .f32 × IVec S256 32 × FVec F S256x32 .f32
  | 0 => (k0_pay15, k0_pay16, k0_pay17)
  | k + 1 => if h : k < 8 then
      (k0_pay23 r (carried r x n k).1 (chunk x n ⟨k, h⟩),
        k0_pay24 r (⟨k, h⟩ : Fin k0_t1_loop.trips) (carried r x n k).1 (carried r x n k).2.1 (chunk x n ⟨k, h⟩),
        k0_pay25 r (carried r x n k).1 (carried r x n k).2.2 (chunk x n ⟨k, h⟩))
    else carried r x n k

theorem carried_succ (r : Vec F S256x32 .f32) (x : Vec F S4x1024x32 .f32) (n : Fin 4) (k : Fin 8) :
    carried r x n (k.val + 1)
      = (k0_pay23 r (carried r x n k.val).1 (chunk x n k),
          k0_pay24 r (show Fin k0_t1_loop.trips from k) (carried r x n k.val).1 (carried r x n k.val).2.1 (chunk x n k),
          k0_pay25 r (carried r x n k.val).1 (carried r x n k.val).2.2 (chunk x n k)) := by
  rw [carried, dif_pos k.2]; rfl

/-- The codes a search ends with. -/
def codes (r : Vec F S256x32 .f32) (x : Vec F S4x1024x32 .f32) (n : Fin 4) : IVec S256 32 := (carried r x n 8).2.1

/-- The codewords a search ends with. -/
def words (r : Vec F S256x32 .f32) (x : Vec F S4x1024x32 .f32) (n : Fin 4) : FVec F S256x32 .f32 := (carried r x n 8).2.2

/-- What a trip loads: the rectangle of the codebook at the trip's offset is the trip's 128 codewords. -/
theorem load_chunk (x : Vec F S4x1024x32 .f32) (n : Fin 4) (k : Fin 8) (off : Fin 3 → ℕ) (hoff : off = ![n.val, 128 * k.val, 0])
    (inb : ∀ a, off a + S1x128x32.size a ≤ S4x1024x32.size a) :
    View.ld (Val := Elt F) (S := S4x1024x32) (e' := .f32) x (Rect.unit off S1x128x32.size inb) = chunk x n k := by
  subst hoff
  funext j
  have h0 : (j 0).val = 0 := by have h : (j 0).val < 1 := (j 0).2; omega
  refine congrArg x (funext fun a => Fin.ext ?_)
  match a with
  | ⟨0, _⟩ => show n.val + 1 * (j 0).val = n.val; omega
  | ⟨1, _⟩ => show 128 * k.val + 1 * (j 1).val = 128 * k.val + (j 1).val; omega
  | ⟨2, _⟩ => show 0 + 1 * (j 2).val = (j 2).val; omega

/-- A sequence that starts as the search does and makes the search's trips ends as the search. -/
theorem follow (r : Vec F S256x32 .f32) (x : Vec F S4x1024x32 .f32) (n : Fin 4)
    (s : ℕ → FVec F S256 .f32 × IVec S256 32 × FVec F S256x32 .f32) (h0 : s 0 = carried r x n 0)
    (hs : ∀ k : Fin 8, s (k.val + 1) = (k0_pay23 r (s k.val).1 (chunk x n k),
      k0_pay24 r (show Fin k0_t1_loop.trips from k) (s k.val).1 (s k.val).2.1 (chunk x n k),
      k0_pay25 r (s k.val).1 (s k.val).2.2 (chunk x n k))) : s 8 = carried r x n 8 := by
  have H : ∀ k ≤ 8, s k = carried r x n k := fun k => by
    induction k with
    | zero => exact fun _ => h0
    | succ k ih =>
      intro hk
      rw [hs ⟨k, hk⟩, carried_succ r x n ⟨k, hk⟩, ← ih (by omega)]
  exact H 8 le_rfl

section Loops

variable {𝒱 : Variants} {c : Dev nD} {bd : Option 𝒱.V} {i : grid0.Coords} {arg1 : Memref sig .tc .vmem S256x32 .f32} {harg1 : arg1.IsWhole}
  {arg2 : Memref sig .tc .vmem S4x1024x32 .f32} {harg2 : arg2.IsWhole} {arg3 : Memref sig .tc .vmem S256x32 .f32} {harg3 : arg3.IsWhole}
  {arg4 : Memref sig .tc .vmem S1x1x256 .i32} {harg4 : arg4.IsWhole} {arg5 : Memref sig .tc .vmem S1x1x256 .i32} {harg5 : arg5.IsWhole}
  {arg6 : Memref sig .tc .vmem S1x1x256 .i32} {harg6 : arg6.IsWhole} {arg7 : Memref sig .tc .vmem S1x1x256 .i32} {harg7 : arg7.IsWhole}
  (v0 v7_2 v17_2 v22 v27_2 : FVec F S256x32 .f32) (x1 : Vec F S4x1024x32 .f32)

/-- What the first search's loop carries at its end is the search over its residual and the level's codebook. -/
theorem loop1 : st_k0_t1 (F := F) 𝒱 c bd i arg1 harg1 arg2 harg2 arg3 harg3 arg4 harg4 arg5 harg5 arg6 harg6 arg7 harg7 v0 (harg2.unread x1)
    (k0_pay15 (F := F), k0_pay16, k0_pay17 (F := F)) 8 = carried v0 x1 0 8 :=
  follow v0 x1 0 (st_k0_t1 𝒱 c bd i arg1 harg1 arg2 harg2 arg3 harg3 arg4 harg4 arg5 harg5 arg6 harg6 arg7 harg7 v0 (harg2.unread x1) _) rfl fun k => by
    refine (st_k0_t1_succ (F := F) 𝒱 c bd i arg1 harg1 arg2 harg2 arg3 harg3 arg4 harg4 arg5 harg5 arg6 harg6 arg7 harg7 v0 (harg2.unread x1) _ k).trans ?_
    unfold tripR_k0_t1 trip_k0_t1
    dsimp only
    rw [View.readAt_eq_ld, harg2.read_unread, load_chunk x1 0 k _ (k0_off1_eq _)]

/-- What the second search's loop carries at its end is the search over its residual and the level's codebook. -/
theorem loop2 : st_k0_t2 (F := F) 𝒱 c bd i arg1 harg1 arg2 harg2 arg3 harg3 arg4 harg4 arg5 harg5 arg6 harg6 arg7 harg7 v0 v7_2 (harg2.unread x1)
    (k0_pay28 (F := F), k0_pay29, k0_pay30 (F := F)) 8 = carried (subf v0 v7_2) x1 1 8 :=
  follow (subf v0 v7_2) x1 1 (st_k0_t2 𝒱 c bd i arg1 harg1 arg2 harg2 arg3 harg3 arg4 harg4 arg5 harg5 arg6 harg6 arg7 harg7 v0 v7_2 (harg2.unread x1) _) rfl fun k => by
    refine (st_k0_t2_succ (F := F) 𝒱 c bd i arg1 harg1 arg2 harg2 arg3 harg3 arg4 harg4 arg5 harg5 arg6 harg6 arg7 harg7 v0 v7_2 (harg2.unread x1) _ k).trans ?_
    unfold tripR_k0_t2 trip_k0_t2
    dsimp only
    rw [View.readAt_eq_ld, harg2.read_unread, load_chunk x1 1 k _ (k0_off2_eq _)]
    rfl

/-- What the third search's loop carries at its end is the search over its residual and the level's codebook. -/
theorem loop3 : st_k0_t3 (F := F) 𝒱 c bd i arg1 harg1 arg2 harg2 arg3 harg3 arg4 harg4 arg5 harg5 arg6 harg6 arg7 harg7 v0 v7_2 v17_2 (harg2.unread x1)
    (k0_pay42 (F := F), k0_pay43, k0_pay44 (F := F)) 8 = carried (subf (subf v0 v7_2) v17_2) x1 2 8 :=
  follow (subf (subf v0 v7_2) v17_2) x1 2 (st_k0_t3 𝒱 c bd i arg1 harg1 arg2 harg2 arg3 harg3 arg4 harg4 arg5 harg5 arg6 harg6 arg7 harg7 v0 v7_2 v17_2 (harg2.unread x1) _) rfl fun k => by
    refine (st_k0_t3_succ (F := F) 𝒱 c bd i arg1 harg1 arg2 harg2 arg3 harg3 arg4 harg4 arg5 harg5 arg6 harg6 arg7 harg7 v0 v7_2 v17_2 (harg2.unread x1) _ k).trans ?_
    unfold tripR_k0_t3 trip_k0_t3
    dsimp only
    rw [View.readAt_eq_ld, harg2.read_unread, load_chunk x1 2 k _ (k0_off3_eq _)]
    rfl

/-- What the fourth search's loop carries at its end is the search over its residual and the level's codebook. -/
theorem loop4 : st_k0_t4 (F := F) 𝒱 c bd i arg1 harg1 arg2 harg2 arg3 harg3 arg4 harg4 arg5 harg5 arg6 harg6 arg7 harg7 (iota .tc S256x128 32 [1] iota_S256x128_d1_w32) v22 v27_2 (harg2.unread x1)
    (k0_pay2 (F := F), k0_pay3, k0_pay4 (F := F)) 8 = carried (subf v22 v27_2) x1 3 8 :=
  follow (subf v22 v27_2) x1 3 (st_k0_t4 𝒱 c bd i arg1 harg1 arg2 harg2 arg3 harg3 arg4 harg4 arg5 harg5 arg6 harg6 arg7 harg7 (iota .tc S256x128 32 [1] iota_S256x128_d1_w32) v22 v27_2 (harg2.unread x1) _) rfl fun k => by
    refine (st_k0_t4_succ (F := F) 𝒱 c bd i arg1 harg1 arg2 harg2 arg3 harg3 arg4 harg4 arg5 harg5 arg6 harg6 arg7 harg7 (iota .tc S256x128 32 [1] iota_S256x128_d1_w32) v22 v27_2 (harg2.unread x1) _ k).trans ?_
    unfold tripR_k0_t4 trip_k0_t4
    dsimp only
    rw [View.readAt_eq_ld, harg2.read_unread, load_chunk x1 3 k _ (k0_off4_eq _)]
    rfl

end Loops

end Cert.Search

end
-- ==== Proof.Block.lean ====
/- What one run of the kernel's body leaves in each output block, as functions of its two input blocks. -/
module

public import proofs.«01_k».proof.Proof.Search

@[expose] public section

noncomputable section

namespace Cert.Search

open Cert.KernelIdeal Cert.KernelIdeal.Gen Idealize.ShloMosaic Idealize.ShloMosaic.TcCoe Idealize.ShloMosaic.Tactic

variable {F : FTy → Type} [FloatOps F]

/-- The residual of the block after one level. -/
def res1 (x0 : Vec F S256x32 .f32) (x1 : Vec F S4x1024x32 .f32) : FVec F S256x32 .f32 := subf x0 (words x0 x1 0)
/-- The residual of the block after two levels. -/
def res2 (x0 : Vec F S256x32 .f32) (x1 : Vec F S4x1024x32 .f32) : FVec F S256x32 .f32 := subf (res1 x0 x1) (words (res1 x0 x1) x1 1)
/-- The residual of the block after three levels. -/
def res3 (x0 : Vec F S256x32 .f32) (x1 : Vec F S4x1024x32 .f32) : FVec F S256x32 .f32 := subf (res2 x0 x1) (words (res2 x0 x1) x1 2)

/-- The codewords of the four levels, added up. -/
def quant (x0 : Vec F S256x32 .f32) (x1 : Vec F S4x1024x32 .f32) : FVec F S256x32 .f32 :=
  k0_pay14 (k0_pay40 (words x0 x1 0) (words (res1 x0 x1) x1 1)) (words (res2 x0 x1) x1 2) (words (res3 x0 x1) x1 3)

/-- The offsets of a store of a whole block. -/
theorem zero2 : (![0, 0] : Fin 2 → Nat) = fun _ => 0 := funext fun a => by fin_cases a <;> rfl
@[inherit_doc zero2] theorem zero3 : (![0, 0, 0] : Fin 3 → Nat) = fun _ => 0 := funext fun a => by fin_cases a <;> rfl

/-- Each loop has eight trips. -/
theorem trips1 : Scf.trips k0_t1_loop.lb k0_t1_loop.ub k0_t1_loop.st = 8 := rfl
@[inherit_doc trips1] theorem trips2 : Scf.trips k0_t2_loop.lb k0_t2_loop.ub k0_t2_loop.st = 8 := rfl
@[inherit_doc trips1] theorem trips3 : Scf.trips k0_t3_loop.lb k0_t3_loop.ub k0_t3_loop.st = 8 := rfl
@[inherit_doc trips1] theorem trips4 : Scf.trips (0#32) (Scalar.addi 0#32 8#32) 1#32 = 8 := rfl

variable (c : Dev nD) (i : grid0.Coords) (arg1 : Memref sig .tc .vmem S256x32 .f32) (harg1 : arg1.IsWhole)
    (arg2 : Memref sig .tc .vmem S4x1024x32 .f32) (harg2 : arg2.IsWhole) (arg3 : Memref sig .tc .vmem S256x32 .f32) (harg3 : arg3.IsWhole)
    (arg4 : Memref sig .tc .vmem S1x1x256 .i32) (harg4 : arg4.IsWhole) (arg5 : Memref sig .tc .vmem S1x1x256 .i32) (harg5 : arg5.IsWhole)
    (arg6 : Memref sig .tc .vmem S1x1x256 .i32) (harg6 : arg6.IsWhole) (arg7 : Memref sig .tc .vmem S1x1x256 .i32) (harg7 : arg7.IsWhole)
    (x0 : Vec F S256x32 .f32) (x1 : Vec F S4x1024x32 .f32)

/-- The first output's block: the sum of the codewords. -/
theorem out2 :
    out0_A_2 c i arg1 harg1 arg2 harg2 arg3 harg3 arg4 harg4 arg5 harg5 arg6 harg6 arg7 harg7 x0 x1 = quant x0 x1 := by
  unfold out0_A_2
  rw [View.read_writes_eq_canon _ _ _ (cover0_A_2 c i arg1 harg1 arg2 harg2 arg3 harg3 arg4 harg4 arg5 harg5 arg6 harg6 arg7 harg7 x0 x1)]
  unfold kernelRun0_A
  dsimp only
  sl_unfold_words
  rw [View.canon_unit_zero zero2]
  simp only [View.readAt_eq_ld, harg1.read_unread, View.ld_unit_zero (S := S256x32) zero2, trips1, trips2, trips3, trips4]
  rw [loop1, loop2, loop3, loop4]
  rfl

/-- The codes of the first level. -/
theorem out3 :
    out0_A_3 c i arg1 harg1 arg2 harg2 arg3 harg3 arg4 harg4 arg5 harg5 arg6 harg6 arg7 harg7 x0 x1 = k0_pay26 (codes x0 x1 0) := by
  unfold out0_A_3
  rw [View.read_writes_eq_canon _ _ _ (cover0_A_3 c i arg1 harg1 arg2 harg2 arg3 harg3 arg4 harg4 arg5 harg5 arg6 harg6 arg7 harg7 x0 x1)]
  unfold kernelRun0_A
  dsimp only
  sl_unfold_words
  rw [View.canon_unit_zero zero3]
  simp only [View.readAt_eq_ld, harg1.read_unread, View.ld_unit_zero (S := S256x32) zero2, trips1, trips2, trips3, trips4]
  rw [loop1]
  rfl

/-- The codes of the second level. -/
theorem out4 :
    out0_A_4 c i arg1 harg1 arg2 harg2 arg3 harg3 arg4 harg4 arg5 harg5 arg6 harg6 arg7 harg7 x0 x1 = k0_pay39 (codes (res1 x0 x1) x1 1) := by
  unfold out0_A_4
  rw [View.read_writes_eq_canon _ _ _ (cover0_A_4 c i arg1 harg1 arg2 harg2 arg3 harg3 arg4 harg4 arg5 harg5 arg6 harg6 arg7 harg7 x0 x1)]
  unfold kernelRun0_A
  dsimp only
  sl_unfold_words
  rw [View.canon_unit_zero zero3]
  simp only [View.readAt_eq_ld, harg1.read_unread, View.ld_unit_zero (S := S256x32) zero2, trips1, trips2, trips3, trips4]
  rw [loop1, loop2]
  rfl

/-- The codes of the third level. -/
theorem out5 :
    out0_A_5 c i arg1 harg1 arg2 harg2 arg3 harg3 arg4 harg4 arg5 harg5 arg6 harg6 arg7 harg7 x0 x1 = k0_pay1 (codes (res2 x0 x1) x1 2) := by
  unfold out0_A_5
  rw [View.read_writes_eq_canon _ _ _ (cover0_A_5 c i arg1 harg1 arg2 harg2 arg3 harg3 arg4 harg4 arg5 harg5 arg6 harg6 arg7 harg7 x0 x1)]
  unfold kernelRun0_A
  dsimp only
  sl_unfold_words
  rw [View.canon_unit_zero zero3]
  simp only [View.readAt_eq_ld, harg1.read_unread, View.ld_unit_zero (S := S256x32) zero2, trips1, trips2, trips3, trips4]
  rw [loop1, loop2, loop3]
  rfl

/-- The codes of the fourth level. -/
theorem out6 :
    out0_A_6 c i arg1 harg1 arg2 harg2 arg3 harg3 arg4 harg4 arg5 harg5 arg6 harg6 arg7 harg7 x0 x1 = k0_pay13 (codes (res3 x0 x1) x1 3) := by
  unfold out0_A_6
  rw [View.read_writes_eq_canon _ _ _ (cover0_A_6 c i arg1 harg1 arg2 harg2 arg3 harg3 arg4 harg4 arg5 harg5 arg6 harg6 arg7 harg7 x0 x1)]
  unfold kernelRun0_A
  dsimp only
  sl_unfold_words
  rw [View.canon_unit_zero zero3]
  simp only [View.readAt_eq_ld, harg1.read_unread, View.ld_unit_zero (S := S256x32) zero2, trips1, trips2, trips3, trips4]
  rw [loop1, loop2, loop3, loop4]
  rfl

end Cert.Search

end
-- ==== Proof.Rows.lean ====
/- The kernel's block, row by row: each search finds the nearest codeword of what the levels before it left. -/
module

public import proofs.«01_k».proof.Proof.Block

@[expose] public section

noncomputable section

namespace Cert.Math

open Cert.KernelIdeal Idealize.ShloMosaic

/-- Level `n` of the codebooks as a list of rows. -/
def book (x : Vec Ideal S4x1024x32 .f32) (n : Fin 4) : ℕ → Fin 32 → EReal := fun k d =>
  if h : k < 1024 then x (ix3 n ⟨k, h⟩ d) else 0

theorem book_of_lt (x : Vec Ideal S4x1024x32 .f32) (n : Fin 4) {k : ℕ} (h : k < 1024) (d : Fin 32) :
    book x n k d = x (ix3 n ⟨k, h⟩ d) := dif_pos h

/-- Every codeword of every level is real. -/
def Books (x : Vec Ideal S4x1024x32 .f32) : Prop := ∀ n, ∀ k < 1024, Real (book x n k)

/-- What a row is after one level. -/
def rest1 (x : Vec Ideal S4x1024x32 .f32) (r : Fin 32 → EReal) : Fin 32 → EReal := rest r (book x 0)
/-- What a row is after two levels. -/
def rest2 (x : Vec Ideal S4x1024x32 .f32) (r : Fin 32 → EReal) : Fin 32 → EReal := rest (rest1 x r) (book x 1)
/-- What a row is after three levels. -/
def rest3 (x : Vec Ideal S4x1024x32 .f32) (r : Fin 32 → EReal) : Fin 32 → EReal := rest (rest2 x r) (book x 2)

/-- The nearest codeword of level `n`. -/
def word (x : Vec Ideal S4x1024x32 .f32) (n : Fin 4) (r : Fin 32 → EReal) : Fin 32 → EReal := book x n (code r (book x n))

/-- The quantised row: the four codewords added to zero in order. -/
def quantised (x : Vec Ideal S4x1024x32 .f32) (r : Fin 32 → EReal) (d : Fin 32) : EReal :=
  (((0 + word x 0 r d) + word x 1 (rest1 x r) d) + word x 2 (rest2 x r) d) + word x 3 (rest3 x r) d

/-- The four codes of a row. -/
def codeword (x : Vec Ideal S4x1024x32 .f32) (r : Fin 32 → EReal) : Fin 4 → BitVec 32
  | 0 => BitVec.ofNat 32 (code r (book x 0))
  | 1 => BitVec.ofNat 32 (code (rest1 x r) (book x 1))
  | 2 => BitVec.ofNat 32 (code (rest2 x r) (book x 2))
  | 3 => BitVec.ofNat 32 (code (rest3 x r) (book x 3))

theorem Real.rest1 {x : Vec Ideal S4x1024x32 .f32} {r : Fin 32 → EReal} (hr : Real r) (hx : Books x) : Real (rest1 x r) :=
  hr.rest (hx 0)
theorem Real.rest2 {x : Vec Ideal S4x1024x32 .f32} {r : Fin 32 → EReal} (hr : Real r) (hx : Books x) : Real (rest2 x r) :=
  (hr.rest1 hx).rest (hx 1)
theorem Real.rest3 {x : Vec Ideal S4x1024x32 .f32} {r : Fin 32 → EReal} (hr : Real r) (hx : Books x) : Real (rest3 x r) :=
  (hr.rest2 hx).rest (hx 2)

end Cert.Math

namespace Cert.Search

open Cert.KernelIdeal Cert.KernelIdeal.Gen Cert.Math Cert.Trip Idealize.ShloMosaic

/-- Row `p` of a block. -/
def row (y : Vec Ideal S256x32 .f32) (p : Fin 256) : Fin 32 → EReal := fun d => y (ix2 p d)

/-- After `k` trips the loop carries the least score of the codewords read, its first index, and the codeword there. -/
theorem good (r : Vec Ideal S256x32 .f32) (x : Vec Ideal S4x1024x32 .f32) (n : Fin 4) (p : Fin 256)
    (hr : Real (row r p)) (hx : Books x) : ∀ k ≤ 8,
    Good (near (row r p) (book x n)) (book x n) k ((carried r x n k).1 (ix1 p)) ((carried r x n k).2.1 (ix1 p))
      fun d => (carried r x n k).2.2 (ix2 p d)
  | 0, _ => .inl ⟨rfl, top⟩
  | k + 1, hk => by
    have ih := good r x n p hr hx k (by omega)
    have h := Good.next (r := r) (v := chunk x n ⟨k, by omega⟩) (p := p) (C := book x n)
      (t := (show Fin k0_t1_loop.trips from (⟨k, by omega⟩ : Fin 8)))
      (fun l d => by
        have hl := l.2
        refine Eq.trans ?_ (book_of_lt x n (show 128 * k + l.val < 1024 by omega) d).symm
        rfl)
      (fun j hj => near_lt_top hr (hx n j hj)) ih
    rw [carried_succ r x n ⟨k, by omega⟩]
    exact h

/-- A search ends with the code of the row and the codeword there. -/
theorem search (r : Vec Ideal S256x32 .f32) (x : Vec Ideal S4x1024x32 .f32) (n : Fin 4) (p : Fin 256)
    (hr : Real (row r p)) (hx : Books x) :
    codes r x n (ix1 p) = BitVec.ofNat 32 (code (row r p) (book x n)) ∧ row (words r x n) p = word x n (row r p) :=
  (good r x n p hr hx 8 le_rfl).last hr (hx n)

section Levels

variable (x0 : Vec Ideal S256x32 .f32) (x1 : Vec Ideal S4x1024x32 .f32) (p : Fin 256) (hr : Real (row x0 p)) (hx : Books x1)

include hr hx

theorem row_res1 : row (res1 x0 x1) p = rest1 x1 (row x0 p) := by
  funext d
  have h := congrFun (search x0 x1 0 p hr hx).2 d
  show x0 (ix2 p d) - words x0 x1 0 (ix2 p d) = _
  rw [show words x0 x1 0 (ix2 p d) = _ from h]
  rfl

theorem row_res2 : row (res2 x0 x1) p = rest2 x1 (row x0 p) := by
  have e := row_res1 x0 x1 p hr hx
  have h' := (search (res1 x0 x1) x1 1 p (by rw [e]; exact hr.rest1 hx) hx).2
  rw [e] at h'
  funext d
  show row (res1 x0 x1) p d - row (words (res1 x0 x1) x1 1) p d = _
  rw [h', e]
  rfl

theorem row_res3 : row (res3 x0 x1) p = rest3 x1 (row x0 p) := by
  have e := row_res2 x0 x1 p hr hx
  have h' := (search (res2 x0 x1) x1 2 p (by rw [e]; exact hr.rest2 hx) hx).2
  rw [e] at h'
  funext d
  show row (res2 x0 x1) p d - row (words (res2 x0 x1) x1 2) p d = _
  rw [h', e]
  rfl

/-- The four searches of the block at row `p`. -/
theorem level0 : codes x0 x1 0 (ix1 p) = codeword x1 (row x0 p) 0 ∧ row (words x0 x1 0) p = word x1 0 (row x0 p) :=
  search x0 x1 0 p hr hx
@[inherit_doc level0] theorem level1 : codes (res1 x0 x1) x1 1 (ix1 p) = codeword x1 (row x0 p) 1
    ∧ row (words (res1 x0 x1) x1 1) p = word x1 1 (rest1 x1 (row x0 p)) := by
  have e := row_res1 x0 x1 p hr hx
  have h := search (res1 x0 x1) x1 1 p (by rw [e]; exact hr.rest1 hx) hx
  rw [e] at h; exact h
@[inherit_doc level0] theorem level2 : codes (res2 x0 x1) x1 2 (ix1 p) = codeword x1 (row x0 p) 2
    ∧ row (words (res2 x0 x1) x1 2) p = word x1 2 (rest2 x1 (row x0 p)) := by
  have e := row_res2 x0 x1 p hr hx
  have h := search (res2 x0 x1) x1 2 p (by rw [e]; exact hr.rest2 hx) hx
  rw [e] at h; exact h
@[inherit_doc level0] theorem level3 : codes (res3 x0 x1) x1 3 (ix1 p) = codeword x1 (row x0 p) 3
    ∧ row (words (res3 x0 x1) x1 3) p = word x1 3 (rest3 x1 (row x0 p)) := by
  have e := row_res3 x0 x1 p hr hx
  have h := search (res3 x0 x1) x1 3 p (by rw [e]; exact hr.rest3 hx) hx
  rw [e] at h; exact h

/-- The first output's block holds the quantised rows. -/
theorem quant_row (d : Fin 32) : quant x0 x1 (ix2 p d) = quantised x1 (row x0 p) d := by
  have h0 := congrFun (level0 x0 x1 p hr hx).2 d
  have h1 := congrFun (level1 x0 x1 p hr hx).2 d
  have h2 := congrFun (level2 x0 x1 p hr hx).2 d
  have h3 := congrFun (level3 x0 x1 p hr hx).2 d
  show ((((Ideal.ofBits .f32 0#32 : EReal) + row (words x0 x1 0) p d) + row (words (res1 x0 x1) x1 1) p d)
    + row (words (res2 x0 x1) x1 2) p d) + row (words (res3 x0 x1) x1 3) p d = _
  rw [h0, h1, h2, h3, show Ideal.ofBits .f32 0#32 = 0 from by simp [Ideal.ofBits, Ideal.ieee]]
  rfl

end Levels

/-- A block of codes is stored as it is found. -/
theorem store1 (v : IVec S256 32) (p : Fin 256) : k0_pay26 v (ix3 0 0 p) = v (ix1 p) := by pointwise [k0_pay26]
@[inherit_doc store1] theorem store2 (v : IVec S256 32) (p : Fin 256) : k0_pay39 v (ix3 0 0 p) = v (ix1 p) := by pointwise [k0_pay39]
@[inherit_doc store1] theorem store3 (v : IVec S256 32) (p : Fin 256) : k0_pay1 v (ix3 0 0 p) = v (ix1 p) := by pointwise [k0_pay1]
@[inherit_doc store1] theorem store4 (v : IVec S256 32) (p : Fin 256) : k0_pay13 v (ix3 0 0 p) = v (ix1 p) := by pointwise [k0_pay13]

end Cert.Search

end
-- ==== Proof.Arrays.lean ====
/- The arrays that the kernel's pipeline ends with: its blocks put side by side. -/
module

public import proofs.«01_k».proof.Proof.Rows
public import Idealize.ShloMosaic.Lib.Pipeline.Value

@[expose] public section

noncomputable section

namespace Cert.Arrays

open Cert.KernelIdeal Cert.KernelIdeal.Gen Cert.Search Idealize.ShloMosaic Idealize.ShloMosaic.TcCoe

variable {F : FTy → Type} [FloatOps F]
variable (m : (ℓ : Loc nD τ sig) → Buf (Elt F) ℓ)

/-- Rows `256 * t` to `256 * t + 255` of the input. -/
def rowsAt (x : Vec F S4096x32 .f32) (t : Fin 16) : Vec F S256x32 .f32 := fun j =>
  x (ix2 ⟨256 * t.val + (j 0).val, by have h : (j 0).val < 256 := (j 0).2; have := t.2; omega⟩ (j 1))

/-- The quantised array, block by block. -/
def quantAll (x : Vec F S4096x32 .f32) (cb : Vec F S4x1024x32 .f32) : Vec F S4096x32 .f32 := fun i =>
  quant (rowsAt x ⟨(i 0).val / 256, by have h : (i 0).val < 4096 := (i 0).2; omega⟩) cb
    (ix2 ⟨(i 0).val % 256, by omega⟩ (i 1))

/-- The codes of level 0, block by block. -/
def codes0All (x : Vec F S4096x32 .f32) (cb : Vec F S4x1024x32 .f32) : Vec F S16x1x256 .i32 := fun i =>
  k0_pay26 (codes (rowsAt x (i 0)) cb 0) (ix3 0 0 (i 2))

/-- The codes of level 1, block by block. -/
def codes1All (x : Vec F S4096x32 .f32) (cb : Vec F S4x1024x32 .f32) : Vec F S16x1x256 .i32 := fun i =>
  k0_pay39 (codes (res1 (rowsAt x (i 0)) cb) cb 1) (ix3 0 0 (i 2))

/-- The codes of level 2, block by block. -/
def codes2All (x : Vec F S4096x32 .f32) (cb : Vec F S4x1024x32 .f32) : Vec F S16x1x256 .i32 := fun i =>
  k0_pay1 (codes (res2 (rowsAt x (i 0)) cb) cb 2) (ix3 0 0 (i 2))

/-- The codes of level 3, block by block. -/
def codes3All (x : Vec F S4096x32 .f32) (cb : Vec F S4x1024x32 .f32) : Vec F S16x1x256 .i32 := fun i =>
  k0_pay13 (codes (res3 (rowsAt x (i 0)) cb) cb 3) (ix3 0 0 (i 2))

/-- The block that each window's index map names at a point. -/
theorem at0 : ∀ t : Fin cfg0.N, win0_0.index t 0 = t.val ∧ win0_0.index t 1 = 0 := by decide +kernel
@[inherit_doc at0] theorem at1 : ∀ t : Fin cfg0.N, win0_1.index t 0 = 0 ∧ win0_1.index t 1 = 0 ∧ win0_1.index t 2 = 0 := by decide +kernel
@[inherit_doc at0] theorem at2 : ∀ t : Fin cfg0.N, win0_2.index t 0 = t.val ∧ win0_2.index t 1 = 0 := by decide +kernel
@[inherit_doc at0] theorem at3 : ∀ t : Fin cfg0.N, win0_3.index t 0 = t.val ∧ win0_3.index t 1 = 0 ∧ win0_3.index t 2 = 0 := by decide +kernel
@[inherit_doc at0] theorem at4 : ∀ t : Fin cfg0.N, win0_4.index t 0 = t.val ∧ win0_4.index t 1 = 0 ∧ win0_4.index t 2 = 0 := by decide +kernel
@[inherit_doc at0] theorem at5 : ∀ t : Fin cfg0.N, win0_5.index t 0 = t.val ∧ win0_5.index t 1 = 0 ∧ win0_5.index t 2 = 0 := by decide +kernel
@[inherit_doc at0] theorem at6 : ∀ t : Fin cfg0.N, win0_6.index t 0 = t.val ∧ win0_6.index t 1 = 0 ∧ win0_6.index t 2 = 0 := by decide +kernel

/-- A point of the grid as a block number. -/
def pt (t : Fin cfg0.N) : Fin 16 := ⟨t.val, lt_of_lt_of_eq t.2 N_0⟩

/-- At point `t` the first window reads block `t` of the input. -/
theorem block0 (c : Dev nD) (t : Fin cfg0.N) :
    (iblk m c 0 t : Vec F S256x32 .f32) = rowsAt (m ((c : Thread nD τ).loc main_arg0)) (pt t) := by
  have hi := at0 t
  funext j
  unfold iblk
  rw [View.read_apply]
  show V m c main_arg0 _ = m ((c : Thread nD τ).loc main_arg0) _
  unfold V
  refine congrArg (m ((c : Thread nD τ).loc main_arg0)) (funext fun a => Fin.ext ?_)
  match a with
  | ⟨0, _⟩ => show win0_0.index t 0 * 256 + 1 * (j 0).val = 256 * t.val + (j 0).val; rw [hi.1]; omega
  | ⟨1, _⟩ => show win0_0.index t 1 * 32 + 1 * (j 1).val = (j 1).val; rw [hi.2]; omega

/-- At every point the second window reads all codebooks. -/
theorem block1 (c : Dev nD) (t : Fin cfg0.N) :
    (iblk m c 1 t : Vec F S4x1024x32 .f32) = m ((c : Thread nD τ).loc main_arg1) := by
  have hi := at1 t
  funext j
  unfold iblk
  rw [View.read_apply]
  show V m c main_arg1 _ = m ((c : Thread nD τ).loc main_arg1) j
  unfold V
  refine congrArg (m ((c : Thread nD τ).loc main_arg1)) (funext fun a => Fin.ext ?_)
  match a with
  | ⟨0, _⟩ => show win0_1.index t 0 * 4 + 1 * (j 0).val = (j 0).val; rw [hi.1]; omega
  | ⟨1, _⟩ => show win0_1.index t 1 * 1024 + 1 * (j 1).val = (j 1).val; rw [hi.2.1]; omega
  | ⟨2, _⟩ => show win0_1.index t 2 * 32 + 1 * (j 2).val = (j 2).val; rw [hi.2.2]; omega

/-- A point of the grid for every block number. -/
theorem point (n : Nat) (h : n < 16) : ∃ t : Fin cfg0.N, t.val = n := ⟨⟨n, lt_of_lt_of_eq h N_0.symm⟩, rfl⟩

/-- The first array ends as the quantised rows. -/
theorem final2 (c : Dev nD) : (dats m 0 c).arrAt 2 cfg0.N
    = quantAll (m ((c : Thread nD τ).loc main_arg0)) (m ((c : Thread nD τ).loc main_arg1)) := by
  refine (dats m 0 c).arrAt_eq_of_cover 2 (quantAll (m ((c : Thread nD τ).loc main_arg0)) (m ((c : Thread nD τ).loc main_arg1))) (fun t _ => ?_) fun i => ?_
  · have hi := at2 t
    show (cfg0.win 2).cut (grid0.coords t) ((dats m 0 c).after 2 t) = _
    rw [after0_2, outsAt0]
    dsimp only
    rw [out2, block0, block1]
    funext j
    rw [View.read_apply]
    have h0 : (j 0).val < 256 := (j 0).2
    have ht : t.val < 16 := (pt t).2
    have e0 : win0_2.index t 0 * 256 + 1 * (j 0).val = 256 * t.val + (j 0).val := by rw [hi.1]; omega
    have e1 : win0_2.index t 1 * 32 + 1 * (j 1).val = (j 1).val := by rw [hi.2]; omega
    show quant (rowsAt _ (pt t)) _ _ = quant (rowsAt _ ⟨(win0_2.index t 0 * 256 + 1 * (j 0).val) / 256, _⟩) _
      (ix2 ⟨(win0_2.index t 0 * 256 + 1 * (j 0).val) % 256, _⟩ ⟨win0_2.index t 1 * 32 + 1 * (j 1).val, _⟩)
    have hq : (⟨(win0_2.index t 0 * 256 + 1 * (j 0).val) / 256, by rw [e0]; omega⟩ : Fin 16) = pt t :=
      Fin.ext (by show (win0_2.index t 0 * 256 + 1 * (j 0).val) / 256 = t.val; rw [e0]; omega)
    rw [hq]
    refine congrArg (quant _ _) (funext fun a => Fin.ext ?_)
    match a with
    | ⟨0, _⟩ => show (j 0).val = (win0_2.index t 0 * 256 + 1 * (j 0).val) % 256; rw [e0]; omega
    | ⟨1, _⟩ => show (j 1).val = win0_2.index t 1 * 32 + 1 * (j 1).val; rw [e1]
  · have h0 : (i 0 : Nat) < 4096 := (i 0).isLt
    have h1 : (i 1 : Nat) < 32 := (i 1).isLt
    obtain ⟨t, ht⟩ := point ((i 0).val / 256) (by omega)
    have hi := at2 t
    refine ⟨t, flush0_2 t, ?_⟩
    show i ∈ ((View.whole main_v0_0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [hi.1, ht]; omega
    | ⟨1, _⟩ => show win0_2.index t 1 * 32 ≤ (i 1 : Nat) ∧ (i 1 : Nat) < win0_2.index t 1 * 32 + 32; rw [hi.2]; omega

/-- An array of codes made of one row per block, where block `t`'s row is read: any function `f` of the block's rows. -/
theorem codes_block (f : Vec F S256x32 .f32 → Vec F S1x1x256 .i32) (x : Vec F S4096x32 .f32) (t : Fin 16) (n : Fin 3 → Nat)
    (hn : n 0 = t.val ∧ n 1 = 0 ∧ n 2 = 0) (j : S1x1x256.Idx) (i : S16x1x256.Idx)
    (h0 : (i 0).val = n 0 * 1 + 1 * (j 0).val) (h2 : (i 2).val = n 2 * 256 + 1 * (j 2).val) :
    f (rowsAt x t) j = f (rowsAt x (i 0)) (ix3 0 0 (i 2)) := by
  have hj : (j 0).val < 1 := (j 0).2
  have hj' : (j 1).val < 1 := (j 1).2
  rw [show i 0 = t from Fin.ext (by omega)]
  refine congrArg (f (rowsAt x t)) (funext fun a => Fin.ext ?_)
  match a with
  | ⟨0, _⟩ => show (j 0).val = 0; omega
  | ⟨1, _⟩ => show (j 1).val = 0; omega
  | ⟨2, _⟩ => show (j 2).val = (i 2).val; omega

/-- Every entry of such an array lies in the block that its first coordinate numbers. -/
theorem codes_cover (i : S16x1x256.Idx) (n : Fin 3 → Nat) (hn : n 0 = (i 0).val ∧ n 1 = 0 ∧ n 2 = 0) (a : Fin 3) :
    n a * S1x1x256.size a ≤ (i a : Nat) ∧ (i a : Nat) < n a * S1x1x256.size a + S1x1x256.size a := by
  have h1 : (i 1 : Nat) < 1 := (i 1).isLt
  have h2 : (i 2 : Nat) < 256 := (i 2).isLt
  match a with
  | ⟨0, _⟩ => show n 0 * 1 ≤ (i 0 : Nat) ∧ (i 0 : Nat) < n 0 * 1 + 1; omega
  | ⟨1, _⟩ => show n 1 * 1 ≤ (i 1 : Nat) ∧ (i 1 : Nat) < n 1 * 1 + 1; omega
  | ⟨2, _⟩ => show n 2 * 256 ≤ (i 2 : Nat) ∧ (i 2 : Nat) < n 2 * 256 + 256; omega

/-- The array of the codes of level 0 ends as those codes. -/
theorem final3 (c : Dev nD) : (dats m 0 c).arrAt 3 cfg0.N = codes0All (m ((c : Thread nD τ).loc main_arg0)) (m ((c : Thread nD τ).loc main_arg1)) := by
  refine (dats m 0 c).arrAt_eq_of_cover 3 (codes0All (m ((c : Thread nD τ).loc main_arg0)) (m ((c : Thread nD τ).loc main_arg1))) (fun t _ => ?_) fun i => ?_
  · show (cfg0.win 3).cut (grid0.coords t) ((dats m 0 c).after 3 t) = _
    rw [after0_3, outsAt0]
    dsimp only
    rw [out3, block0, block1]
    funext j
    exact codes_block (fun y => k0_pay26 (codes y _ 0)) _ (pt t) _ (at3 t) j _ rfl rfl
  · obtain ⟨t, ht⟩ := point (i 0).val (i 0).isLt
    refine ⟨t, flush0_3 t, ?_⟩
    show i ∈ ((View.whole main_call0_v0_1).slice (win0_3.rect t)).set
    rw [View.set_slice_whole, Rect.mem_set_unit]
    exact codes_cover i (win0_3.index t) (ht ▸ at3 t)

/-- The array of the codes of level 1 ends as those codes. -/
theorem final4 (c : Dev nD) : (dats m 0 c).arrAt 4 cfg0.N = codes1All (m ((c : Thread nD τ).loc main_arg0)) (m ((c : Thread nD τ).loc main_arg1)) := by
  refine (dats m 0 c).arrAt_eq_of_cover 4 (codes1All (m ((c : Thread nD τ).loc main_arg0)) (m ((c : Thread nD τ).loc main_arg1))) (fun t _ => ?_) fun i => ?_
  · show (cfg0.win 4).cut (grid0.coords t) ((dats m 0 c).after 4 t) = _
    rw [after0_4, outsAt0]
    dsimp only
    rw [out4, block0, block1]
    funext j
    exact codes_block (fun y => k0_pay39 (codes (res1 y _) _ 1)) _ (pt t) _ (at4 t) j _ rfl rfl
  · obtain ⟨t, ht⟩ := point (i 0).val (i 0).isLt
    refine ⟨t, flush0_4 t, ?_⟩
    show i ∈ ((View.whole main_call0_v0_2).slice (win0_4.rect t)).set
    rw [View.set_slice_whole, Rect.mem_set_unit]
    exact codes_cover i (win0_4.index t) (ht ▸ at4 t)

/-- The array of the codes of level 2 ends as those codes. -/
theorem final5 (c : Dev nD) : (dats m 0 c).arrAt 5 cfg0.N = codes2All (m ((c : Thread nD τ).loc main_arg0)) (m ((c : Thread nD τ).loc main_arg1)) := by
  refine (dats m 0 c).arrAt_eq_of_cover 5 (codes2All (m ((c : Thread nD τ).loc main_arg0)) (m ((c : Thread nD τ).loc main_arg1))) (fun t _ => ?_) fun i => ?_
  · show (cfg0.win 5).cut (grid0.coords t) ((dats m 0 c).after 5 t) = _
    rw [after0_5, outsAt0]
    dsimp only
    rw [out5, block0, block1]
    funext j
    exact codes_block (fun y => k0_pay1 (codes (res2 y _) _ 2)) _ (pt t) _ (at5 t) j _ rfl rfl
  · obtain ⟨t, ht⟩ := point (i 0).val (i 0).isLt
    refine ⟨t, flush0_5 t, ?_⟩
    show i ∈ ((View.whole main_call0_v0_3).slice (win0_5.rect t)).set
    rw [View.set_slice_whole, Rect.mem_set_unit]
    exact codes_cover i (win0_5.index t) (ht ▸ at5 t)

/-- The array of the codes of level 3 ends as those codes. -/
theorem final6 (c : Dev nD) : (dats m 0 c).arrAt 6 cfg0.N = codes3All (m ((c : Thread nD τ).loc main_arg0)) (m ((c : Thread nD τ).loc main_arg1)) := by
  refine (dats m 0 c).arrAt_eq_of_cover 6 (codes3All (m ((c : Thread nD τ).loc main_arg0)) (m ((c : Thread nD τ).loc main_arg1))) (fun t _ => ?_) fun i => ?_
  · show (cfg0.win 6).cut (grid0.coords t) ((dats m 0 c).after 6 t) = _
    rw [after0_6, outsAt0]
    dsimp only
    rw [out6, block0, block1]
    funext j
    exact codes_block (fun y => k0_pay13 (codes (res3 y _) _ 3)) _ (pt t) _ (at6 t) j _ rfl rfl
  · obtain ⟨t, ht⟩ := point (i 0).val (i 0).isLt
    refine ⟨t, flush0_6 t, ?_⟩
    show i ∈ ((View.whole main_call0_v0_4).slice (win0_6.rect t)).set
    rw [View.set_slice_whole, Rect.mem_set_unit]
    exact codes_cover i (win0_6.index t) (ht ▸ at6 t)

end Cert.Arrays

end
-- ==== Proof.Tail.lean ====
/- What the kernel program ends with: its quantised array, and its four arrays of codes side by side. -/
module

public import proofs.«01_k».proof.Proof.Arrays
public import Idealize.ShloMosaic.Lib.StableHlo

@[expose] public section

noncomputable section

namespace Cert.Arrays

open Cert.KernelIdeal Cert.KernelIdeal.Gen Cert.Search Idealize.ShloMosaic Idealize.ShloMosaic.TcCoe Idealize.ShloMosaic.StableHlo Idealize.SL.Sem

variable {F : FTy → Type} [FloatOps F]

/-- A blocked array of codes as one column. -/
def column (c : IVec S16x1x256 32) : IVec S4096x1 32 :=
  broadcastInDim S4096x1 ![0] bcast_S4096_S4096x1_0 (shapeCast _ c shapeCasts_S16x1x256_S4096)

/-- Four columns side by side. -/
def beside (a b c d : IVec S4096x1 32) : IVec S4096x4 32 :=
  concatenate S4096x4 1 [⟨S4096x1, a⟩, ⟨S4096x1, b⟩, ⟨S4096x1, c⟩, ⟨S4096x1, d⟩]
    concatenates_S4096x1_S4096x1_S4096x1_S4096x1_S4096x4_d1

/-- The table of codes of the kernel. -/
def table (x : Vec F S4096x32 .f32) (cb : Vec F S4x1024x32 .f32) : IVec S4096x4 32 :=
  beside (column (codes0All x cb)) (column (codes1All x cb)) (column (codes2All x cb)) (column (codes3All x cb))

set_option maxRecDepth 8192 in
set_option maxHeartbeats 2000000 in
/-- The lines after the launch put the four arrays of codes side by side. -/
theorem tail_codes (V : Valuation τ sig (Elt F)) : after hostOps1 V (Proc.devRef .tc main_v0_1)
    = beside (column (V (Proc.devRef .tc main_call0_v0_1))) (column (V (Proc.devRef .tc main_call0_v0_2)))
      (column (V (Proc.devRef .tc main_call0_v0_3))) (column (V (Proc.devRef .tc main_call0_v0_4))) := by
  simp only [hostOps1, TRef.nary, TRef.reshape, TRef.unary, TRef.toBuf, TRef.ofBuf, cast_eq]
  after_results_simp
  try dsimp only [Matrix.cons_val]
  try after_results_simp
  rfl

/-- No two windows have the same array. -/
theorem arr_inj : Function.Injective (Pipeline.arrRef spec0) := by decide

variable (m : (ℓ : Loc nD τ sig) → Buf (Elt F) ℓ)

/-- What the buffers hold when the launch ends. -/
def atEnd (c : Dev nD) : Valuation τ sig (Elt F) :=
  Pipeline.withArrays spec0 c (V0 m c) fun w => (dats m 0 c).arrAt w cfg0.N

theorem atEnd_arr (c : Dev nD) (w : Fin 7) :
    atEnd m c (Proc.devRef .tc (Pipeline.arrRef spec0 w)) = (dats m 0 c).arrAt w cfg0.N :=
  Pipeline.withArrays_arr spec0 arr_inj c (V0 m c) (fun w => (dats m 0 c).arrAt w cfg0.N) w

theorem atEnd3 (c : Dev nD) : atEnd m c (Proc.devRef .tc main_call0_v0_1)
    = codes0All (m ((c.tc : Thread nD τ).loc main_arg0)) (m ((c.tc : Thread nD τ).loc main_arg1)) :=
  (atEnd_arr m c 3).trans (final3 m c)
theorem atEnd4 (c : Dev nD) : atEnd m c (Proc.devRef .tc main_call0_v0_2)
    = codes1All (m ((c.tc : Thread nD τ).loc main_arg0)) (m ((c.tc : Thread nD τ).loc main_arg1)) :=
  (atEnd_arr m c 4).trans (final4 m c)
theorem atEnd5 (c : Dev nD) : atEnd m c (Proc.devRef .tc main_call0_v0_3)
    = codes2All (m ((c.tc : Thread nD τ).loc main_arg0)) (m ((c.tc : Thread nD τ).loc main_arg1)) :=
  (atEnd_arr m c 5).trans (final5 m c)
theorem atEnd6 (c : Dev nD) : atEnd m c (Proc.devRef .tc main_call0_v0_4)
    = codes3All (m ((c.tc : Thread nD τ).loc main_arg0)) (m ((c.tc : Thread nD τ).loc main_arg1)) :=
  (atEnd_arr m c 6).trans (final6 m c)

/-- The table of codes when the program ends. -/
theorem end_codes (c : Dev nD) : after hostOps1 (atEnd m c) (Proc.devRef .tc main_v0_1)
    = table (m ((c.tc : Thread nD τ).loc main_arg0)) (m ((c.tc : Thread nD τ).loc main_arg1)) := by
  rw [tail_codes, atEnd3, atEnd4, atEnd5, atEnd6]
  delta table
  with_reducible rfl

theorem rest_codes : main_v0_1 ∈ Pipeline.restRefs sig spec0 := by decide

theorem afterTail_eq (c : Dev nD) : Pipeline.afterTail₀ cfgs (dats m) 0 (V0 m) [hostOps1] c main_v0_1
    = after hostOps1 (atEnd m c) (Proc.devRef .tc main_v0_1) := by
  delta Pipeline.afterTail₀ atEnd
  rw [List.flatten_singleton]

/-- When the kernel program ends, its results hold the quantised array and the table of codes, and its arguments are unchanged. -/
theorem run (ρ : Dev nD → PrngReg) :
    θ_run defs (onTc (τ := τ) (main (F := F))) ⟨m, fun _ => 0, ρ⟩ fun r => ∀ c : Dev nD,
      r.2.mem ((c.tc : Thread nD τ).loc main_v0_0) = quantAll (m ((c.tc : Thread nD τ).loc main_arg0)) (m ((c.tc : Thread nD τ).loc main_arg1))
      ∧ r.2.mem ((c.tc : Thread nD τ).loc main_v0_1) = table (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.2 c).1 2).trans (final2 m c),
    ((h.2 c).2 main_v0_1 rest_codes).trans ((afterTail_eq m c).trans (end_codes m c)), h.1 c⟩)
    (θ_run_and (unchanged m ρ) (run_main m ρ))

end Cert.Arrays

end
-- ==== Proof.RefArg.lean ====
/- The reference's arg-min: at a row whose entries lie below `⊤` it is the first index of the least entry. -/
module

public import proofs.«01_k».proof.Proof.RefRead
public import proofs.«01_k».proof.Proof.Best

@[expose] public section

noncomputable section

namespace Cert.Ref

open Cert.ReferenceIdeal Cert.ReferenceIdeal.Gen Cert.Math Idealize.ShloMosaic

/-- One pair comes before another: by value, then by index. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (h' : Before q r) : Before p r := by
  rcases h with h | ⟨h, h2⟩ <;> rcases h' with h' | ⟨h', h2'⟩
  · exact .inl (h.trans h')
  · exact .inl (h'.symm ▸ h)
  · exact .inl (h ▸ h')
  · exact .inr ⟨h.trans h', h2.trans h2'⟩

/-- The body of the arg-min picks the one of its two pairs that comes first. -/
theorem step (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, j⟩ := q
  have hr : reducer_argmin_f32_i32 (F := Ideal) (a, i) (b, j)
      = (Scalar.select (IntOp.ori (BitVec.ofBool (decide (a < b))) (BitVec.ofBool (decide (a ≠ a)))) a b,
          Scalar.select (IntOp.ori (IntOp.ori (BitVec.ofBool (decide (a < b))) (BitVec.ofBool (decide (a ≠ a))))
            (IntOp.andi (BitVec.ofBool (decide (a = b))) (IntOp.cmpi .slt i j))) i j) := rfl
  rw [hr]
  by_cases h : a < b
  · have hne : a ≠ b := h.ne
    simp [h, hne, Scalar.select, IntOp.ori, IntOp.andi, Before]
  · by_cases he : a = b
    · subst he
      by_cases hs : i.toInt < j.toInt
      · simp [hs, Scalar.select, IntOp.ori, IntOp.andi, IntOp.cmpi, Before, BitVec.slt]
        exact hs.le
      · simp [hs, Scalar.select, IntOp.ori, IntOp.andi, IntOp.cmpi, Before, BitVec.slt]
        exact not_lt.mp hs
    · have hlt : b < a := lt_of_le_of_ne (not_lt.mp h) (Ne.symm he)
      simp [h, he, hlt, Scalar.select, IntOp.ori, IntOp.andi, Before]

/-- The fold of the arg-min's body over a list is a pair of the list, or the initial one, that comes before all of them. -/
theorem fold_before (l : List (EReal × BitVec 32)) (p : EReal × BitVec 32) :
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l generalizing p with
  | nil => exact ⟨.inl rfl, .refl p, by simp⟩
  | cons a l ih =>
    obtain ⟨hm, hp, hl⟩ := ih (reducer_argmin_f32_i32 (F := Ideal) p a)
    obtain ⟨sm, sp, sa⟩ := step p a
    refine ⟨?_, hp.trans sp, fun q hq => ?_⟩
    · rcases hm with hm | hm
      · rcases sm with sm | sm
        · left; rw [List.foldl_cons, hm, sm]
        · right; rw [List.foldl_cons, hm, sm]; exact List.mem_cons_self
      · right; rw [List.foldl_cons]; exact List.mem_cons_of_mem _ hm
    · rcases List.mem_cons.mp hq with rfl | hq
      · exact hp.trans sa
      · exact hl q hq

/-- Dropping the second coordinate leaves the first. -/
theorem drop_iff (a : S4096x1024.Idx) (i : Fin 4096) :
    reducesTo_S4096x1024_S4096_d1.drop a = ix1 i ↔ a = ix2 i (a 1) := by
  have h0 : (reducesTo_S4096x1024_S4096_d1.drop a 0).val = (a 0).val :=
    Shape.ReducesTo.drop_apply_val_of_eq reducesTo_S4096x1024_S4096_d1 a 0 0
  constructor
  · intro h
    rw [h] at h0
    funext b
    match b with
    | ⟨0, _⟩ => exact Fin.ext h0.symm
    | ⟨1, _⟩ => rfl
  · intro h
    funext b
    match b with
    | ⟨0, _⟩ => exact Fin.ext (h0.trans (congrArg Fin.val (congrFun h 0)))

/-- What the arg-min of row `i` folds over: the entries of the row with their positions. -/
theorem mem_fiber (y : FVec Ideal S4096x1024 .f32) (i : Fin 4096) (q : EReal × BitVec 32) :
    q ∈ Host.argReduceFiber y (iotaInDim S4096x1024 32 1) reducesTo_S4096x1024_S4096_d1 (ix1 i)
      ↔ ∃ k : Fin 1024, q = (y (ix2 i k), BitVec.ofNat 32 k.val) := by
  have hio : ∀ k : Fin 1024, iotaInDim S4096x1024 32 1 (ix2 i k) = BitVec.ofNat 32 k.val := fun k => rfl
  unfold Host.argReduceFiber
  simp only [List.mem_map, List.mem_filter, List.mem_finRange, true_and, decide_eq_true_eq]
  constructor
  · rintro ⟨n, hn, rfl⟩
    generalize S4096x1024.rowMajor.symm n = a at hn ⊢
    have h := (drop_iff a i).mp hn
    exact ⟨a 1, Prod.ext (congrArg y h) ((congrArg (iotaInDim S4096x1024 32 1) h).trans (hio _))⟩
  · rintro ⟨k, rfl⟩
    have e : S4096x1024.rowMajor.symm (S4096x1024.rowMajor (ix2 i k)) = ix2 i k := Equiv.symm_apply_apply _ _
    refine ⟨S4096x1024.rowMajor (ix2 i k), ?_, ?_⟩
    · rw [e]; exact (drop_iff _ i).mpr rfl
    · rw [e, hio]

/-- The fold over the pairs of a list of 1024 values below `⊤` with their positions ends at the first least one. -/
theorem fold_best (L : List (EReal × BitVec 32)) (f : ℕ → EReal)
    (hm : ∀ q, q ∈ L ↔ ∃ k : Fin 1024, q = (f k.val, BitVec.ofNat 32 k.val)) (ht : ∀ k < 1024, f k < ⊤) :
    (L.foldl (reducer_argmin_f32_i32 (F := Ideal)) (⊤, 0#32)).2 = BitVec.ofNat 32 (best f 1024) := by
  obtain ⟨h1, -, h3⟩ := fold_before L (⊤, 0#32)
  generalize L.foldl (reducer_argmin_f32_i32 (F := Ideal)) (⊤, 0#32) = r at h1 h3 ⊢
  have hmem : r ∈ L := by
    rcases h1 with h1 | h1
    · exfalso
      have h0 : (0 : ℕ) < 1024 := by norm_num
      rcases h3 (f 0, 0#32) ((hm _).mpr ⟨⟨0, h0⟩, rfl⟩) with h | ⟨h, -⟩
      · rw [h1] at h; exact absurd h not_top_lt
      · rw [h1] at h; exact absurd (ht 0 h0) (by rw [← show ⊤ = f 0 from h]; exact lt_irrefl _)
    · exact h1
  obtain ⟨k, hk⟩ := (hm r).mp hmem
  have hint : ∀ n < 1024, (BitVec.ofNat 32 n).toInt = n := fun n hn => by
    rw [BitVec.toInt_ofNat']
    exact Int.bmod_eq_of_le (by omega) (by omega)
  have hcmp : ∀ l < 1024, f k.val < f l ∨ (f k.val = f l ∧ k.val ≤ l) := fun l hl => by
    rcases h3 (f l, BitVec.ofNat 32 l) ((hm _).mpr ⟨⟨l, hl⟩, rfl⟩) with h | ⟨h, h'⟩
    · rw [hk] at h; exact .inl h
    · rw [hk] at h h'
      refine .inr ⟨h, ?_⟩
      have h'' : (BitVec.ofNat 32 k.val).toInt ≤ (BitVec.ofNat 32 l).toInt := h'
      rw [hint _ k.2, hint _ hl] at h''
      exact_mod_cast h''
  have hfirst : First f 1024 k.val := ⟨k.2, fun l hl => by
      rcases hcmp l hl with h | ⟨h, -⟩
      · exact h.le
      · exact h.le,
    fun l hl => by
      rcases hcmp l (hl.trans k.2) with h | ⟨-, h⟩
      · exact h
      · omega⟩
  rw [hk, ← hfirst.eq_best]

/-- An arg-reduction over the columns as a fold over the pairs of a row. -/
theorem pairs_fold (f : Ideal .f32 × BitVec 32 → Ideal .f32 × BitVec 32 → Ideal .f32 × BitVec 32)
    (y : FVec Ideal S4096x1024 .f32) (x : IVec S4096x1024 32) (a : FVec Ideal S_ .f32) (b : IVec S_ 32) (j : S4096.Idx) :
    Host.argReduce (F := Ideal) f y x a b reducesTo_S4096x1024_S4096_d1 h_S_ j
      = (Host.argReduceFiber y x reducesTo_S4096x1024_S4096_d1 j).foldl f (a (Shape.Idx.first h_S_), b (Shape.Idx.first h_S_)) :=
  (congrFun (Ideal.argReduce_eq_reduce2 f y x a b reducesTo_S4096x1024_S4096_d1 h_S_) j).trans
    (Host.reduce2_eq_foldl_fiber f y x a b reducesTo_S4096x1024_S4096_d1 h_S_ j)

/-- The arg-min is the second part of the pair. -/
theorem arg_eq (y : FVec Ideal S4096x1024 .f32) : arg (F := Ideal) y = fun j => (argPair (F := Ideal) y j).2 := by
  delta arg
  with_reducible rfl

/-- The arg-min pair of a row, spelled out. -/
theorem argPair_eq (y : FVec Ideal S4096x1024 .f32) :
    argPair (F := Ideal) y = Host.argReduce (F := Ideal) reducer_argmin_f32_i32 y (iotaInDim S4096x1024 32 1)
      (constant S_ .f32 0x7F800000#32) (constantI S_ 32 0#32) reducesTo_S4096x1024_S4096_d1 h_S_ := by
  delta argPair
  with_reducible rfl

/-- The arg-min as a fold over the pairs of its row. -/
theorem argPair_fold (y : FVec Ideal S4096x1024 .f32) (j : S4096.Idx) :
    argPair (F := Ideal) y j = (Host.argReduceFiber y (iotaInDim S4096x1024 32 1) reducesTo_S4096x1024_S4096_d1 j).foldl
      (reducer_argmin_f32_i32 (F := Ideal))
      ((constant S_ .f32 0x7F800000#32 : FVec Ideal S_ .f32) (Shape.Idx.first h_S_), (constantI S_ 32 0#32) (Shape.Idx.first h_S_)) := by
  rw [argPair_eq, pairs_fold]

/-- The pair that the fold starts from. -/
theorem arg_init : ((constant S_ .f32 0x7F800000#32 : FVec Ideal S_ .f32) (Shape.Idx.first h_S_), (constantI S_ 32 0#32) (Shape.Idx.first h_S_))
    = ((⊤ : EReal), 0#32) := by
  refine Prod.ext ?_ rfl
  show Ideal.ofBits .f32 0x7F800000#32 = ⊤
  simp [Ideal.ofBits, Ideal.ieee]

/-- The arg-min of a row whose entries lie below `⊤`. -/
theorem arg_best (y : FVec Ideal S4096x1024 .f32) (i : Fin 4096) (f : ℕ → EReal)
    (hf : ∀ k : Fin 1024, y (ix2 i k) = f k.val) (ht : ∀ k < 1024, f k < ⊤) :
    arg y (ix1 i) = BitVec.ofNat 32 (best f 1024) := by
  have h2 := congrFun (arg_eq y) (ix1 i)
  beta_reduce at h2
  have h := argPair_fold y (ix1 i)
  have hm := fun q => (mem_fiber y i q)
  generalize Host.argReduceFiber y (iotaInDim S4096x1024 32 1) reducesTo_S4096x1024_S4096_d1 (ix1 i) = L at h hm
  generalize argPair (F := Ideal) y (ix1 i) = p at h h2
  generalize arg (F := Ideal) y (ix1 i) = a at h2 ⊢
  subst h2
  rw [arg_init] at h
  subst h
  refine fold_best L f (fun q => (hm q).trans (exists_congr fun k => ?_)) ht
  rw [hf k]

end Cert.Ref

end
-- ==== Proof.RefRows.lean ====
/- The reference, row by row: each level finds the nearest codeword of what the levels before it left. -/
module

public import proofs.«01_k».proof.Proof.RefArg
public import proofs.«01_k».proof.Proof.Rows
public import Idealize.ShloMosaic.Lib.Routing.Ops
public import Idealize.ShloMosaic.Lib.Routing.OpsPair

@[expose] public section

noncomputable section

namespace Cert.Ref

open Cert.ReferenceIdeal Cert.ReferenceIdeal.Gen Cert.Math Idealize.ShloMosaic

/-- Row `i` of an array. -/
def line (x : FVec Ideal S4096x32 .f32) (i : Fin 4096) : Fin 32 → EReal := fun d => x (ix2 i d)

/-- An entry of the distance table. -/
theorem dist_at (x : FVec Ideal S4096x32 .f32) (cb : FVec Ideal S1024x32 .f32) (i : Fin 4096) (k : Fin 1024) :
    dist (F := Ideal) x cb (ix2 i k)
      = ∑ d : Fin 32, (x (ix2 i d) - cb (ix2 k d)) * (x (ix2 i d) - cb (ix2 k d)) := by
  pointwise [dist, diff]

/-- The code of a row is the index of its nearest codeword. -/
theorem codes_row (x : FVec Ideal S4096x32 .f32) (cb : FVec Ideal S1024x32 .f32) (C : ℕ → Fin 32 → EReal) (i : Fin 4096)
    (hC : ∀ (k : Fin 1024) (d : Fin 32), cb (ix2 k d) = C k.val d) (hr : Real (line x i)) (hl : ∀ k < 1024, Real (C k)) :
    codes (F := Ideal) x cb (ix1 i) = BitVec.ofNat 32 (code (line x i) C) := by
  unfold codes code
  refine arg_best (dist (F := Ideal) x cb) i (far (line x i) C) (fun k => ?_) fun k hk => far_lt_top hr (hl k hk)
  rw [dist_at]
  exact Finset.sum_congr rfl fun d _ => by rw [hC]; rfl

/-- The index as the lookup uses it is the index, where it lies in the codebook. -/
theorem wrapped_at (k : IVec S4096 32) (i : Fin 4096) (b : ℕ) (hb : b < 1024) (hk : k (ix1 i) = BitVec.ofNat 32 b) :
    wrapped k (ix2 i 0) = BitVec.ofNat 32 b := by
  have h : wrapped k (ix2 i 0)
      = Scalar.select (IntOp.cmpi .slt (k (ix1 i)) 0#32) (IntOp.addi (k (ix1 i)) 1024#32) (k (ix1 i)) := by
    pointwise [wrapped]
  rw [h, hk]
  refine Routing.wrap_of_lt _ _ ?_
  rw [BitVec.toNat_ofNat, Nat.mod_eq_of_lt (by omega)]
  omega

/-- An index in the codebook passes the range test. -/
theorem inside_at (k : IVec S4096 32) (i : Fin 4096) (b : ℕ) (hb : b < 1024) (hk : k (ix1 i) = BitVec.ofNat 32 b) :
    inside k (ix1 i) = 1#1 := by
  have hw : Scalar.select (IntOp.cmpi .slt (BitVec.ofNat 32 b) 0#32) (IntOp.addi (BitVec.ofNat 32 b) 1024#32) (BitVec.ofNat 32 b)
      = BitVec.ofNat 32 b := by
    refine Routing.wrap_of_lt _ _ ?_
    rw [BitVec.toNat_ofNat, Nat.mod_eq_of_lt (by omega)]
    omega
  have h0 : IntOp.cmpi .sge (BitVec.ofNat 32 b) 0#32 = 1#1 := by
    rw [WordCmp.cmpi_sge_ofNat (by omega) (by omega)]
    simp
  have h1 : IntOp.cmpi .sle (BitVec.ofNat 32 b) 1023#32 = 1#1 := by
    rw [WordCmp.cmpi_sle_ofNat (by omega) (by omega), decide_eq_true (by omega)]
    rfl
  have h : inside k (ix1 i) = Finset.fold IntOp.andi 1#1 (fun _ : Fin 1 =>
      IntOp.andi (IntOp.cmpi .sge (Scalar.select (IntOp.cmpi .slt (k (ix1 i)) 0#32) (IntOp.addi (k (ix1 i)) 1024#32) (k (ix1 i))) 0#32)
        (IntOp.cmpi .sle (Scalar.select (IntOp.cmpi .slt (k (ix1 i)) 0#32) (IntOp.addi (k (ix1 i)) 1024#32) (k (ix1 i))) 1023#32))
      Finset.univ := by
    pointwise [inside, wrapped]
  rw [h, hk, hw, h0, h1]
  rfl

/-- The lookup at an index in the codebook is the row there. -/
theorem rows_at (cb : FVec Ideal S1024x32 .f32) (k : IVec S4096 32) (i : Fin 4096) (d : Fin 32) (b : ℕ) (hb : b < 1024)
    (hk : k (ix1 i) = BitVec.ofNat 32 b) : rows (F := Ideal) cb k (ix2 i d) = cb (ix2 ⟨b, hb⟩ d) := by
  have h : rows (F := Ideal) cb k (ix2 i d) = Scalar.select (inside k (ix1 i))
      (Host.gather gather_S1024x32_S4096x1_S4096x32_1_0_n_n_0_1_132 cb (wrapped k) (ix2 i d))
      (Ideal.ofBits .f32 2143289344#32) := by
    pointwise [rows]
  rw [h, inside_at k i b hb hk]
  refine Eq.trans (b := Host.gather gather_S1024x32_S4096x1_S4096x32_1_0_n_n_0_1_132 cb (wrapped k) (ix2 i d)) rfl ?_
  exact Routing.gather_row _ rfl rfl rfl rfl rfl cb (wrapped k) i d ⟨b, hb⟩ (wrapped_at k i b hb hk) (by norm_num)

/-- The quantised row of a level is the nearest codeword. -/
theorem quant_row (x : FVec Ideal S4096x32 .f32) (cb : FVec Ideal S1024x32 .f32) (C : ℕ → Fin 32 → EReal) (i : Fin 4096)
    (hC : ∀ (k : Fin 1024) (d : Fin 32), cb (ix2 k d) = C k.val d) (hr : Real (line x i)) (hl : ∀ k < 1024, Real (C k))
    (d : Fin 32) : quant (F := Ideal) x cb (ix2 i d) = C (code (line x i) C) d :=
  (rows_at cb _ i d _ (code_lt _ _) (codes_row x cb C i hC hr hl)).trans (hC _ d)

/-- What a level leaves of a row. -/
theorem line_sub (x : FVec Ideal S4096x32 .f32) (cb : FVec Ideal S1024x32 .f32) (C : ℕ → Fin 32 → EReal) (i : Fin 4096)
    (hC : ∀ (k : Fin 1024) (d : Fin 32), cb (ix2 k d) = C k.val d) (hr : Real (line x i)) (hl : ∀ k < 1024, Real (C k)) :
    line (subf x (quant (F := Ideal) x cb)) i = rest (line x i) C :=
  funext fun d => congrArg (fun z : EReal => x (ix2 i d) - z) (quant_row x cb C i hC hr hl d)

variable (x : FVec Ideal S4096x32 .f32) (cb : FVec Ideal S4x1024x32 .f32)

theorem book_row (n : Fin 4) (k : Fin 1024) (d : Fin 32) : cb (ix3 n k d) = book cb n k.val d := (book_of_lt cb n k.2 d).symm
theorem book0_row (k : Fin 1024) (d : Fin 32) : book0 (F := Ideal) cb (ix2 k d) = book cb 0 k.val d :=
  Eq.trans (by pointwise [book0]) (book_row cb 0 k d)
theorem book1_row (k : Fin 1024) (d : Fin 32) : book1 (F := Ideal) cb (ix2 k d) = book cb 1 k.val d :=
  Eq.trans (by pointwise [book1]) (book_row cb 1 k d)
theorem book2_row (k : Fin 1024) (d : Fin 32) : book2 (F := Ideal) cb (ix2 k d) = book cb 2 k.val d :=
  Eq.trans (by pointwise [book2]) (book_row cb 2 k d)
theorem book3_row (k : Fin 1024) (d : Fin 32) : book3 (F := Ideal) cb (ix2 k d) = book cb 3 k.val d :=
  Eq.trans (by pointwise [book3]) (book_row cb 3 k d)

variable (i : Fin 4096) (hr : Real (line x i)) (hx : Books cb)
include hr hx

theorem line_res1 : line (res1 (F := Ideal) x cb) i = rest1 cb (line x i) :=
  line_sub x _ _ i (book0_row cb) hr (hx 0)
theorem line_res2 : line (res2 (F := Ideal) x cb) i = rest2 cb (line x i) := by
  have h := line_sub (res1 (F := Ideal) x cb) _ _ i (book1_row cb) (by rw [line_res1 x cb i hr hx]; exact hr.rest1 hx) (hx 1)
  rw [line_res1 x cb i hr hx] at h
  exact h
theorem line_res3 : line (res3 (F := Ideal) x cb) i = rest3 cb (line x i) := by
  have h := line_sub (res2 (F := Ideal) x cb) _ _ i (book2_row cb) (by rw [line_res2 x cb i hr hx]; exact hr.rest2 hx) (hx 2)
  rw [line_res2 x cb i hr hx] at h
  exact h

/-- The code and the codeword of a row at each level. -/
theorem level0 : codes (F := Ideal) x (book0 cb) (ix1 i) = codeword cb (line x i) 0
    ∧ ∀ d, quant (F := Ideal) x (book0 cb) (ix2 i d) = word cb 0 (line x i) d :=
  ⟨codes_row x _ _ i (book0_row cb) hr (hx 0), quant_row x _ _ i (book0_row cb) hr (hx 0)⟩
@[inherit_doc level0] theorem level1 : codes (F := Ideal) (res1 x cb) (book1 cb) (ix1 i) = codeword cb (line x i) 1
    ∧ ∀ d, quant (F := Ideal) (res1 x cb) (book1 cb) (ix2 i d) = word cb 1 (rest1 cb (line x i)) d := by
  have e := line_res1 x cb i hr hx
  have hr' : Real (line (res1 (F := Ideal) x cb) i) := e ▸ hr.rest1 hx
  have h := codes_row _ _ _ i (book1_row cb) hr' (hx 1)
  have h' := quant_row _ _ _ i (book1_row cb) hr' (hx 1)
  rw [e] at h
  simp only [e] at h'
  exact ⟨h, h'⟩
@[inherit_doc level0] theorem level2 : codes (F := Ideal) (res2 x cb) (book2 cb) (ix1 i) = codeword cb (line x i) 2
    ∧ ∀ d, quant (F := Ideal) (res2 x cb) (book2 cb) (ix2 i d) = word cb 2 (rest2 cb (line x i)) d := by
  have e := line_res2 x cb i hr hx
  have hr' : Real (line (res2 (F := Ideal) x cb) i) := e ▸ hr.rest2 hx
  have h := codes_row _ _ _ i (book2_row cb) hr' (hx 2)
  have h' := quant_row _ _ _ i (book2_row cb) hr' (hx 2)
  rw [e] at h
  simp only [e] at h'
  exact ⟨h, h'⟩
@[inherit_doc level0] theorem level3 : codes (F := Ideal) (res3 x cb) (book3 cb) (ix1 i) = codeword cb (line x i) 3
    ∧ ∀ d, quant (F := Ideal) (res3 x cb) (book3 cb) (ix2 i d) = word cb 3 (rest3 cb (line x i)) d := by
  have e := line_res3 x cb i hr hx
  have hr' : Real (line (res3 (F := Ideal) x cb) i) := e ▸ hr.rest3 hx
  have h := codes_row _ _ _ i (book3_row cb) hr' (hx 3)
  have h' := quant_row _ _ _ i (book3_row cb) hr' (hx 3)
  rw [e] at h
  simp only [e] at h'
  exact ⟨h, h'⟩

/-- The first result at an entry. -/
theorem total_row (d : Fin 32) : total (F := Ideal) x cb (ix2 i d) = quantised cb (line x i) d := by
  have h : total (F := Ideal) x cb (ix2 i d) = (((Ideal.ofBits .f32 0#32 + quant (F := Ideal) x (book0 cb) (ix2 i d))
      + quant (F := Ideal) (res1 x cb) (book1 cb) (ix2 i d)) + quant (F := Ideal) (res2 x cb) (book2 cb) (ix2 i d))
      + quant (F := Ideal) (res3 x cb) (book3 cb) (ix2 i d) := rfl
  rw [h, (level0 x cb i hr hx).2, (level1 x cb i hr hx).2, (level2 x cb i hr hx).2, (level3 x cb i hr hx).2]
  have h0 : Ideal.ofBits .f32 0#32 = 0 := by simp [Ideal.ofBits, Ideal.ieee]
  rw [h0]
  rfl

end Cert.Ref

end
-- ==== Proof.Equal.lean ====
/- Kernel and reference give the same two arrays, where every input number is finite. -/
module

public import proofs.«01_k».proof.Proof.Tail
public import proofs.«01_k».proof.Proof.RefRows
public import proofs.«01_k».proof.Pre_finite

@[expose] public section

noncomputable section

namespace Cert.Pre_finite

/-- The side conditions of the precondition. -/
theorem facts : Facts := ⟨by decide, by decide⟩

end Cert.Pre_finite

namespace Cert.Equal

open Cert.KernelIdeal Cert.KernelIdeal.Gen Cert.Math Cert.Search Cert.Arrays Cert.Ref Idealize.ShloMosaic

/-- A number whose absolute value lies below `⊤` is real. -/
theorem real_of_abs (a : EReal) (h : max a (-a) < ⊤) : ∃ r : ℝ, a = (r : EReal) := by
  induction a using EReal.rec with
  | bot => simp at h
  | coe r => exact ⟨r, rfl⟩
  | top => simp at h

variable [Cert.Pre_finite.Facts]

/-- The word of infinity is `⊤`. -/
theorem word_top : Ideal.ofBits .f32 0x7F800000#32 = ⊤ := by simp [Ideal.ofBits, Ideal.ieee]

/-- Under the precondition every input row is real. -/
theorem real_rows (x : Vec Ideal S4096x32 .f32) (cb : Vec Ideal S4x1024x32 .f32)
    (h : (Cert.Pre_finite.fn (F := Ideal) x cb).1 = fun _ => 1#1) (i : Fin 4096) : Real (line x i) := by
  have h' : ∀ d : Fin 32, ∃ r : ℝ, x (ix2 i d) = (r : EReal) := fun d => by
    refine real_of_abs _ ?_
    have e := congrFun h (ix2 i d)
    have e' : BitVec.ofBool (decide (max (x (ix2 i d)) (-x (ix2 i d)) < Ideal.ofBits .f32 0x7F800000#32)) = 1#1 := e
    rw [word_top] at e'
    by_contra hn
    rw [decide_eq_false hn] at e'
    exact absurd e' (by decide)
  choose ρ hρ using h'
  exact ⟨ρ, hρ⟩

/-- Under the precondition every codeword is real. -/
theorem real_books (x : Vec Ideal S4096x32 .f32) (cb : Vec Ideal S4x1024x32 .f32)
    (h : (Cert.Pre_finite.fn (F := Ideal) x cb).2 = fun _ => 1#1) : Books cb := fun n k hk => by
  have h' : ∀ d : Fin 32, ∃ r : ℝ, cb (ix3 n ⟨k, hk⟩ d) = (r : EReal) := fun d => by
    refine real_of_abs _ ?_
    have e := congrFun h (ix3 n ⟨k, hk⟩ d)
    have e' : BitVec.ofBool (decide (max (cb (ix3 n ⟨k, hk⟩ d)) (-cb (ix3 n ⟨k, hk⟩ d)) < Ideal.ofBits .f32 0x7F800000#32)) = 1#1 := e
    rw [word_top] at e'
    by_contra hn
    rw [decide_eq_false hn] at e'
    exact absurd e' (by decide)
  choose ρ hρ using h'
  exact ⟨ρ, fun d => (book_of_lt cb n hk d).trans (hρ d)⟩

omit [Cert.Pre_finite.Facts]

/-- The block that holds row `i`, and its place in the block. -/
def blk (i : Fin 4096) : Fin 16 := ⟨i.val / 256, by omega⟩
@[inherit_doc blk] def pos (i : Fin 4096) : Fin 256 := ⟨i.val % 256, by omega⟩

/-- Row `i` of the input is a row of its block. -/
theorem row_block (x : Vec Ideal S4096x32 .f32) (i : Fin 4096) : row (rowsAt x (blk i)) (pos i) = line x i := by
  funext d
  refine congrArg x (congrArg (fun j => ix2 j d) (Fin.ext ?_))
  show 256 * (i.val / 256) + i.val % 256 = i.val
  omega

variable (x : Vec Ideal S4096x32 .f32) (cb : Vec Ideal S4x1024x32 .f32) (hr : ∀ i, Real (line x i)) (hx : Books cb)
include hr hx

theorem real_block (i : Fin 4096) : Real (row (rowsAt x (blk i)) (pos i)) := row_block x i ▸ hr i

/-- The first results agree. -/
theorem first : quantAll x cb = total (F := Ideal) x cb := by
  funext j
  rw [eq_ix2 j]
  refine Eq.trans (?_ : _ = quantised cb (line x (j 0)) (j 1)) (total_row x cb (j 0) (hr _) hx (j 1)).symm
  rw [← row_block x (j 0)]
  exact Cert.Search.quant_row (rowsAt x (blk (j 0))) cb (pos (j 0)) (real_block x cb hr hx (j 0)) hx (j 1)

omit hr hx in
/-- An entry of a column made of a blocked array. -/
theorem column_at (c : IVec S16x1x256 32) (i : Fin 4096) : column c (ix2 i 0) = c (ix3 (blk i) 0 (pos i)) := by
  pointwise [column, blk, pos]

omit hr hx in
/-- An entry of a column made of a list. -/
theorem col_at (k : IVec S4096 32) (i : Fin 4096) : col k (ix2 i 0) = k (ix1 i) := by
  pointwise [col]

omit hr hx in
/-- Two columns with the same entries are equal. -/
theorem column_eq (c : IVec S16x1x256 32) (k : IVec S4096 32) (h : ∀ i, c (ix3 (blk i) 0 (pos i)) = k (ix1 i)) :
    column c = col k := by
  funext j
  have e : j = ix2 (j 0) 0 := (eq_ix2 j).trans (congrArg (ix2 (j 0)) (Subsingleton.elim (α := Fin 1) _ _))
  rw [e]
  exact (column_at c (j 0)).trans ((h (j 0)).trans (col_at k (j 0)).symm)

/-- The codes of each level agree. -/
theorem column0 : column (codes0All x cb) = col (Cert.Ref.codes (F := Ideal) x (book0 cb)) := by
  refine column_eq _ _ fun i => ?_
  rw [(Cert.Ref.level0 x cb i (hr i) hx).1, ← row_block x i]
  exact (store1 _ _).trans (Cert.Search.level0 (rowsAt x (blk i)) cb (pos i) (real_block x cb hr hx i) hx).1
@[inherit_doc column0] theorem column1 : column (codes1All x cb) = col (Cert.Ref.codes (F := Ideal) (Cert.Ref.res1 x cb) (book1 cb)) := by
  refine column_eq _ _ fun i => ?_
  rw [(Cert.Ref.level1 x cb i (hr i) hx).1, ← row_block x i]
  exact (store2 _ _).trans (Cert.Search.level1 (rowsAt x (blk i)) cb (pos i) (real_block x cb hr hx i) hx).1
@[inherit_doc column0] theorem column2 : column (codes2All x cb) = col (Cert.Ref.codes (F := Ideal) (Cert.Ref.res2 x cb) (book2 cb)) := by
  refine column_eq _ _ fun i => ?_
  rw [(Cert.Ref.level2 x cb i (hr i) hx).1, ← row_block x i]
  exact (store3 _ _).trans (Cert.Search.level2 (rowsAt x (blk i)) cb (pos i) (real_block x cb hr hx i) hx).1
@[inherit_doc column0] theorem column3 : column (codes3All x cb) = col (Cert.Ref.codes (F := Ideal) (Cert.Ref.res3 x cb) (book3 cb)) := by
  refine column_eq _ _ fun i => ?_
  rw [(Cert.Ref.level3 x cb i (hr i) hx).1, ← row_block x i]
  exact (store4 _ _).trans (Cert.Search.level3 (rowsAt x (blk i)) cb (pos i) (real_block x cb hr hx i) hx).1

/-- The second results agree. -/
theorem second : table x cb = allCodes (F := Ideal) x cb := by
  delta table allCodes
  rw [column0 x cb hr hx, column1 x cb hr hx, column2 x cb hr hx, column3 x cb hr hx]
  delta beside stack4
  with_reducible rfl

end Cert.Equal

end
-- ==== Proof.lean ====
/- The proof of the certificate's claims: the frames of the kernel, of its idealization and of the idealized
   reference, that the idealization rewrites nothing, and that kernel and reference give the same two results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRead
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, its arguments end unchanged, and its counters end at zero. -/
theorem frame_reference : Cert.quiescent_ReferenceIdeal := by
  intro m ρ _
  exact (θ_run Cert.ReferenceIdeal.defs _ _).mono
    (fun r h => ⟨fun c => ⟨(h c).2.2.1, (h c).2.2.2⟩, sem_eq_zero_of_no_sems (by decide) r.2⟩)
    (Cert.Ref.run (F := Ideal) m ρ)

/-- The same where the inputs are finite. -/
theorem frame_reference_finite [Cert.Pre_finite.Facts] : Cert.quiescent_ReferenceIdeal_pre_finite :=
  fun m ρ _ => frame_reference m ρ trivial

/-- Where the inputs are finite, kernel and reference give the same quantised array and the same table of codes. -/
theorem same_results [Cert.Pre_finite.Facts] : Cert.algebraic_KernelIdeal_ReferenceIdeal_pre_finite := by
  intro m g m' g' hpre hargs
  refine ⟨_, _, Cert.Arrays.run (F := Ideal) m g, (θ_run Cert.ReferenceIdeal.defs _ _).mono (fun r h c => ?_)
    (Cert.Ref.run (F := Ideal) m' g')⟩
  obtain ⟨h0, h1, ha⟩ := h c
  rw [(hargs c).1, (hargs c).2] at h0 h1
  have hr := Cert.Equal.real_rows _ _ (hpre c).1
  have hx := Cert.Equal.real_books _ _ (hpre c).2
  exact ⟨h0.trans (Cert.Equal.first _ _ hr hx).symm, h1.trans (Cert.Equal.second _ _ hr hx).symm, ha⟩

/-- Every claim of the certificate. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  frame_reference, letI := Cert.Pre_finite.facts; frame_reference_finite, trivial, letI := Cert.Pre_finite.facts; same_results⟩

end Cert.Proof

end
